-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_bc2" .f32 0x42C8E6D3#32 ((268435456 / 2672307 : ℝ) : EReal)
  ∧ IdealRules.named_const.Statement Cert.KernelIdeal.κ "inv_bc1" .f32 0x3FC48605#32 ((8388608 / 5463681 : ℝ) : EReal)

def algebraic_KernelIdeal_ReferenceIdeal_on_covered [hKernelIdeal : Cert.KernelIdeal.Facts] [hReferenceIdeal : Cert.ReferenceIdeal.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![5632, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v5_0) i = v0 c i)
          ∧ (∀ i : (⟨2, ![1, 5632]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v5_1) i = v1 c i)
          ∧ (∀ i : (⟨2, ![5632, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v5_2) i = v2 c i)
          ∧ (∀ i : (⟨2, ![5632, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v5_3) i = v3 c i)
          ∧ (∀ i : (⟨2, ![5632, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.KernelIdeal.nD Cert.KernelIdeal.τ).loc Cert.KernelIdeal.main_v5_4) i = v4 c i)
          ∧ (∀ i : (⟨2, ![3, 5632]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.KernelIdeal.nD Cert.KernelIdeal.τ).loc Cert.KernelIdeal.main_v5_5) i = v5 c i)
          ∧ (∀ i : (⟨2, ![5632, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.KernelIdeal.nD Cert.KernelIdeal.τ).loc Cert.KernelIdeal.main_v5_6) i = v6 c i)
          ∧ (∀ i : (⟨2, ![3, 5632]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 i = 1#1 → r.2.mem ((c.tc : Thread Cert.KernelIdeal.nD Cert.KernelIdeal.τ).loc Cert.KernelIdeal.main_v5_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![5632, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v134) i = v0 c i)
          ∧ (∀ i : (⟨2, ![1, 5632]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v135) i = v1 c i)
          ∧ (∀ i : (⟨2, ![5632, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v105) i = v2 c i)
          ∧ (∀ i : (⟨2, ![5632, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v54) i = v3 c i)
          ∧ (∀ i : (⟨2, ![5632, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.ReferenceIdeal.nD Cert.ReferenceIdeal.τ).loc Cert.ReferenceIdeal.main_v84) i = v4 c i)
          ∧ (∀ i : (⟨2, ![3, 5632]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.ReferenceIdeal.nD Cert.ReferenceIdeal.τ).loc Cert.ReferenceIdeal.main_v136) i = v5 c i)
          ∧ (∀ i : (⟨2, ![5632, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.ReferenceIdeal.nD Cert.ReferenceIdeal.τ).loc Cert.ReferenceIdeal.main_v96) i = v6 c i)
          ∧ (∀ i : (⟨2, ![3, 5632]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 i = 1#1 → r.2.mem ((c.tc : Thread Cert.ReferenceIdeal.nD Cert.ReferenceIdeal.τ).loc Cert.ReferenceIdeal.main_v137) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hOn_covered : Cert.On_covered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_covered (hKernelIdeal := hKernelIdeal) (hReferenceIdeal := hReferenceIdeal) (hOn_covered := hOn_covered)
-- ==== On_covered.lean ====
abbrev S1x256x2048 : Shape := ⟨3, ![1, 256, 2048]⟩
abbrev S1x256x5632 : Shape := ⟨3, ![1, 256, 5632]⟩
abbrev S384x1024 : Shape := ⟨2, ![384, 1024]⟩
abbrev S384x8 : Shape := ⟨2, ![384, 8]⟩
abbrev S5632x384 : Shape := ⟨2, ![5632, 384]⟩
abbrev S5632x3 : Shape := ⟨2, ![5632, 3]⟩
abbrev S5632x2048 : Shape := ⟨2, ![5632, 2048]⟩
abbrev S5632 : Shape := ⟨1, ![5632]⟩
abbrev S_ : Shape := ⟨0, ![]⟩
abbrev S384x8x128 : Shape := ⟨3, ![384, 8, 128]⟩
abbrev S5632x1024 : Shape := ⟨2, ![5632, 1024]⟩
abbrev S5632x3x128 : Shape := ⟨3, ![5632, 3, 128]⟩
abbrev S5632x1024x1 : Shape := ⟨3, ![5632, 1024, 1]⟩
abbrev S5632x1024x2 : Shape := ⟨3, ![5632, 1024, 2]⟩
abbrev S5632x1 : Shape := ⟨2, ![5632, 1]⟩
abbrev S1x5632 : Shape := ⟨2, ![1, 5632]⟩
abbrev S3x5632 : Shape := ⟨2, ![3, 5632]⟩

class Facts : Prop where
  natLt_8_32 : 8 < 32
  bcast_S_S384x1024 : S_.BroadcastsInDim S384x1024 (![] : Fin 0 → Fin S384x1024.rank)
  bcast_S384x8_S384x8x128_0_1 : S384x8.BroadcastsInDim S384x8x128 (![0, 1] : Fin 2 → Fin S384x8x128.rank)
  shapeCasts_S384x8x128_S384x1024 : S384x8x128.ShapeCasts S384x1024
  bitsLt_bf16_f32 : FTy.bits .bf16 < FTy.bits .f32
  slicesBy_S5632x2048_S5632x1024_0s1_0s2 : S5632x2048.SlicesBy (![0, 0] : Fin 2 → Nat) ![1, 2] S5632x1024
  slicesBy_S5632x2048_S5632x1024_0s1_1s2 : S5632x2048.SlicesBy (![0, 1] : Fin 2 → Nat) ![1, 2] S5632x1024
  bcast_S5632x3_S5632x3x128_0_1 : S5632x3.BroadcastsInDim S5632x3x128 (![0, 1] : Fin 2 → Fin S5632x3x128.rank)
  shapeCasts_S5632x3x128_S5632x384 : S5632x3x128.ShapeCasts S5632x384
  bcast_S_S5632x384 : S_.BroadcastsInDim S5632x384 (![] : Fin 0 → Fin S5632x384.rank)
  reducesTo_S5632x384_S5632_d1 : S5632x384.ReducesTo [1] S5632
  h_S_ : 0 < S_.numel
  bcast_S5632x1024_S5632x1024x1_0_1 : S5632x1024.BroadcastsInDim S5632x1024x1 (![0, 1] : Fin 2 → Fin S5632x1024x1.rank)
  concatenates_S5632x1024x1_S5632x1024x1_S5632x1024x2_d2 : Shape.Concatenates [S5632x1024x1, S5632x1024x1] S5632x1024x2 2
  shapeCasts_S5632x1024x2_S5632x2048 : S5632x1024x2.ShapeCasts S5632x2048
  bcast_S_S5632x2048 : S_.BroadcastsInDim S5632x2048 (![] : Fin 0 → Fin S5632x2048.rank)
  bcast_S5632_S5632x1_0 : S5632.BroadcastsInDim S5632x1 (![0] : Fin 1 → Fin S5632x1.rank)
  bcast_S5632x1_S5632x2048_0_1 : S5632x1.BroadcastsInDim S5632x2048 (![0, 1] : Fin 2 → Fin S5632x2048.rank)
  reducesTo_S5632x2048_S5632_d1 : S5632x2048.ReducesTo [1] S5632
  bcast_S_S5632 : S_.BroadcastsInDim S5632 (![] : Fin 0 → Fin S5632.rank)
  bcast_S5632_S5632x2048_0 : S5632.BroadcastsInDim S5632x2048 (![0] : Fin 1 → Fin S5632x2048.rank)
  shapeCasts_S5632_S1x5632 : S5632.ShapeCasts S1x5632
  bcast_S_S3x5632 : S_.BroadcastsInDim S3x5632 (![] : Fin 0 → Fin S3x5632.rank)
  dot_S1x256x5632_S1x256x2048_S5632x2048_01_01_2_2_n_n_wf : DotDims.WF S1x256x5632 S1x256x2048 S5632x2048 [0, 1] [0, 1] [2] [2] [] []
  dot_S5632x1024_S384x1024_S5632x384_1_1_0_0_n_n_wf : DotDims.WF S5632x1024 S384x1024 S5632x384 [1] [1] [0] [0] [] []
  dot_S5632x384_S384x1024_S5632x1024_1_0_0_1_n_n_wf : DotDims.WF S5632x384 S384x1024 S5632x1024 [1] [0] [0] [1] [] []

variable [Facts]

def dot_S1x256x5632_S1x256x2048_S5632x2048_01_01_2_2_n_n : DotDims S1x256x5632 S1x256x2048 S5632x2048 where
  lhsContracting := [0, 1]
  rhsContracting := [0, 1]
  lhsNonContracting := [2]
  rhsNonContracting := [2]
  lhsBatch := []
  rhsBatch := []
  wf := dot_S1x256x5632_S1x256x2048_S5632x2048_01_01_2_2_n_n_wf
def dot_S5632x1024_S384x1024_S5632x384_1_1_0_0_n_n : DotDims S5632x1024 S384x1024 S5632x384 where
  lhsContracting := [1]
  rhsContracting := [1]
  lhsNonContracting := [0]
  rhsNonContracting := [0]
  lhsBatch := []
  rhsBatch := []
  wf := dot_S5632x1024_S384x1024_S5632x384_1_1_0_0_n_n_wf
def dot_S5632x384_S384x1024_S5632x1024_1_0_0_1_n_n : DotDims S5632x384 S384x1024 S5632x1024 where
  lhsContracting := [1]
  rhsContracting := [0]
  lhsNonContracting := [0]
  rhsNonContracting := [1]
  lhsBatch := []
  rhsBatch := []
  wf := dot_S5632x384_S384x1024_S5632x1024_1_0_0_1_n_n_wf
def fn_part5 {F : FTy → Type} [FloatOps F] (main_v54 : IVec S5632x384 1) (main_v55 : IVec S5632 1) (main_v95 : IVec S5632x2048 1) (main_v99 : IVec S5632x2048 1) : IVec S5632x2048 1 × IVec S1x5632 1 × IVec S5632x2048 1 × IVec S5632x384 1 × IVec S5632x384 1 × IVec S3x5632 1 × IVec S5632x384 1 × IVec S3x5632 1 :=
  let main_v100 : IVec S5632x2048 1 := andi main_v95 main_v99
  let main_v101 : IVec S1x5632 1 := shapeCast S1x5632 main_v55 shapeCasts_S5632_S1x5632
  let main_c_18 : IVec S_ 1 := constantI S_ 1 1#1
  let main_v102 : IVec S5632x384 1 := broadcastInDim S5632x384 ![] bcast_S_S5632x384 main_c_18
  let main_c_19 : IVec S_ 1 := constantI S_ 1 1#1
  let main_v103 : IVec S3x5632 1 := broadcastInDim S3x5632 ![] bcast_S_S3x5632 main_c_19
  let main_c_20 : IVec S_ 1 := constantI S_ 1 1#1
  let main_v104 : IVec S5632x384 1 := broadcastInDim S5632x384 ![] bcast_S_S5632x384 main_c_20
  let main_c_21 : IVec S_ 1 := constantI S_ 1 1#1
  let main_v105 : IVec S3x5632 1 := broadcastInDim S3x5632 ![] bcast_S_S3x5632 main_c_21
  (main_v100, main_v101, main_v95, main_v54, main_v102, main_v103, main_v104, main_v105)

def fn_part4 {F : FTy → Type} [FloatOps F] (main_arg11 : IVec S5632x2048 8) (main_v54 : IVec S5632x384 1) (main_v55 : IVec S5632 1) (main_v78 : FVec F S5632x2048 .f32) (main_v80 : FVec F S5632 .f32) : IVec S5632x2048 1 × IVec S1x5632 1 × IVec S5632x2048 1 × IVec S5632x384 1 × IVec S5632x384 1 × IVec S3x5632 1 × IVec S5632x384 1 × IVec S3x5632 1 :=
  let main_cst_13 : FVec F S_ .f32 := constant S_ .f32 0x00000000#32
  let main_v81 : FVec F S5632 .f32 := broadcastInDim S5632 ![] bcast_S_S5632 main_cst_13
  let main_v82 : IVec S5632 1 := cmpf .oeq main_v80 main_v81
  let main_cst_14 : FVec F S_ .f32 := constant S_ .f32 0x3F800000#32
  let main_v83 : FVec F S5632 .f32 := broadcastInDim S5632 ![] bcast_S_S5632 main_cst_14
  let main_cst_15 : FVec F S_ .f32 := constant S_ .f32 0x42FE0000#32
  let main_v84 : FVec F S5632 .f32 := broadcastInDim S5632 ![] bcast_S_S5632 main_cst_15
  let main_v85 : FVec F S5632 .f32 := Host.divf main_v80 main_v84
  let main_v86 : FVec F S5632 .f32 := select main_v82 main_v83 main_v85
  let main_v87 : IVec S5632x2048 32 := (extui 32 · natLt_8_32) main_arg11
  let main_v88 : FVec F S5632x2048 .f32 := sitofp .f32 main_v87
  let main_cst_16 : FVec F S_ .f32 := constant S_ .f32 0x3B800000#32
  let main_v89 : FVec F S5632x2048 .f32 := broadcastInDim S5632x2048 ![] bcast_S_S5632x2048 main_cst_16
  let main_v90 : FVec F S5632x2048 .f32 := mulf main_v88 main_v89
  let main_v91 : FVec F S5632x1 .f32 := broadcastInDim S5632x1 ![0] bcast_S5632_S5632x1_0 main_v86
  let main_v92 : FVec F S5632x2048 .f32 := broadcastInDim S5632x2048 ![0, 1] bcast_S5632x1_S5632x2048_0_1 main_v91
  let main_v93 : FVec F S5632x2048 .f32 := Host.divf main_v78 main_v92
  let main_v94 : FVec F S5632x2048 .f32 := addf main_v93 main_v90
  let main_v95 : IVec S5632x2048 1 := broadcastInDim S5632x2048 ![0] bcast_S5632_S5632x2048_0 main_v55
  let main_v96 : FVec F S5632x2048 .f32 := Host.floor main_v94
  let main_v97 : FVec F S5632x2048 .f32 := subf main_v94 main_v96
  let main_cst_17 : FVec F S_ .f32 := constant S_ .f32 0x3F7FFFFF#32
  let main_v98 : FVec F S5632x2048 .f32 := broadcastInDim S5632x2048 ![] bcast_S_S5632x2048 main_cst_17
  let main_v99 : IVec S5632x2048 1 := cmpf .ole main_v97 main_v98
  fn_part5 (F := F) main_v54 main_v55 main_v95 main_v99

def fn_part3 {F : FTy → Type} [FloatOps F] (main_arg9 : IVec S5632x2048 8) (main_arg10 : FVec F S5632 .f32) (main_arg11 : IVec S5632x2048 8) (main_v14 : FVec F S384x1024 .bf16) (main_v18 : FVec F S384x1024 .bf16) (main_v54 : IVec S5632x384 1) (main_v55 : IVec S5632 1) (main_v57 : FVec F S5632x384 .f32) (main_v59 : FVec F S5632x384 .f32) : IVec S5632x2048 1 × IVec S1x5632 1 × IVec S5632x2048 1 × IVec S5632x384 1 × IVec S5632x384 1 × IVec S3x5632 1 × IVec S5632x384 1 × IVec S3x5632 1 :=
  let main_v60 : FVec F S5632x384 .f32 := Host.sqrt main_v59
  let main_cst_10 : FVec F S_ .f32 := constant S_ .f32 0x322BCC77#32
  let main_v61 : FVec F S5632x384 .f32 := broadcastInDim S5632x384 ![] bcast_S_S5632x384 main_cst_10
  let main_v62 : FVec F S5632x384 .f32 := addf main_v60 main_v61
  let main_v63 : FVec F S5632x384 .f32 := Host.divf main_v57 main_v62
  let main_v64 : FVec F S5632x384 .bf16 := (truncf .bf16 · bitsLt_bf16_f32) main_v63
  let main_v65 : FVec F S5632x1024 .f32 := (fun l r => Host.dotGeneral dot_S5632x384_S384x1024_S5632x1024_1_0_0_1_n_n none l r) main_v64 main_v14
  let main_v66 : FVec F S5632x1024 .f32 := (fun l r => Host.dotGeneral dot_S5632x384_S384x1024_S5632x1024_1_0_0_1_n_n none l r) main_v64 main_v18
  let main_v67 : FVec F S5632x1024x1 .f32 := broadcastInDim S5632x1024x1 ![0, 1] bcast_S5632x1024_S5632x1024x1_0_1 main_v65
  let main_v68 : FVec F S5632x1024x1 .f32 := broadcastInDim S5632x1024x1 ![0, 1] bcast_S5632x1024_S5632x1024x1_0_1 main_v66
  let main_v69 : FVec F S5632x1024x2 .f32 := (fun a b => concatenate S5632x1024x2 2 [⟨S5632x1024x1, a⟩, ⟨S5632x1024x1, b⟩] concatenates_S5632x1024x1_S5632x1024x1_S5632x1024x2_d2) main_v67 main_v68
  let main_v70 : FVec F S5632x2048 .f32 := shapeCast S5632x2048 main_v69 shapeCasts_S5632x1024x2_S5632x2048
  let main_cst_11 : FVec F S_ .f32 := constant S_ .f32 0x3A83126F#32
  let main_v71 : FVec F S5632x2048 .f32 := broadcastInDim S5632x2048 ![] bcast_S_S5632x2048 main_cst_11
  let main_v72 : FVec F S5632x2048 .f32 := mulf main_v71 main_v70
  let main_v73 : IVec S5632x2048 32 := (extsi 32 · natLt_8_32) main_arg9
  let main_v74 : FVec F S5632x2048 .f32 := sitofp .f32 main_v73
  let main_v75 : FVec F S5632x1 .f32 := broadcastInDim S5632x1 ![0] bcast_S5632_S5632x1_0 main_arg10
  let main_v76 : FVec F S5632x2048 .f32 := broadcastInDim S5632x2048 ![0, 1] bcast_S5632x1_S5632x2048_0_1 main_v75
  let main_v77 : FVec F S5632x2048 .f32 := mulf main_v74 main_v76
  let main_v78 : FVec F S5632x2048 .f32 := subf main_v77 main_v72
  let main_v79 : FVec F S5632x2048 .f32 := Host.absf main_v78
  let main_cst_12 : FVec F S_ .f32 := constant S_ .f32 0xFF800000#32
  let main_v80 : FVec F S5632 .f32 := (fun x v => Host.reduce FloatOps.maximumf x v reducesTo_S5632x2048_S5632_d1 h_S_) main_v79 main_cst_12
  fn_part4 (F := F) main_arg11 main_v54 main_v55 main_v78 main_v80

def fn_part2 {F : FTy → Type} [FloatOps F] (main_arg9 : IVec S5632x2048 8) (main_arg10 : FVec F S5632 .f32) (main_arg11 : IVec S5632x2048 8) (main_v14 : FVec F S384x1024 .bf16) (main_v18 : FVec F S384x1024 .bf16) (main_v25 : FVec F S5632x384 .f32) (main_v40 : FVec F S5632x384 .f32) (main_v42 : FVec F S5632x384 .f32) : IVec S5632x2048 1 × IVec S1x5632 1 × IVec S5632x2048 1 × IVec S5632x384 1 × IVec S5632x384 1 × IVec S3x5632 1 × IVec S5632x384 1 × IVec S3x5632 1 :=
  let main_cst_3 : FVec F S_ .f32 := constant S_ .f32 0x3A83126F#32
  let main_v43 : FVec F S5632x384 .f32 := broadcastInDim S5632x384 ![] bcast_S_S5632x384 main_cst_3
  let main_v44 : FVec F S5632x384 .f32 := mulf main_v43 main_v25
  let main_v45 : FVec F S5632x384 .f32 := mulf main_v44 main_v25
  let main_v46 : FVec F S5632x384 .f32 := addf main_v42 main_v45
  let main_cst_4 : FVec F S_ .f32 := constant S_ .f32 0x00000000#32
  let main_v47 : FVec F S5632x384 .f32 := broadcastInDim S5632x384 ![] bcast_S_S5632x384 main_cst_4
  let main_v48 : IVec S5632x384 1 := cmpf .oeq main_v46 main_v47
  let main_cst_5 : FVec F S_ .f32 := constant S_ .f32 0x00800000#32
  let main_v49 : FVec F S5632x384 .f32 := broadcastInDim S5632x384 ![] bcast_S_S5632x384 main_cst_5
  let main_v50 : IVec S5632x384 1 := cmpf .oge main_v46 main_v49
  let main_cst_6 : FVec F S_ .f32 := constant S_ .f32 0x7F800000#32
  let main_v51 : FVec F S5632x384 .f32 := broadcastInDim S5632x384 ![] bcast_S_S5632x384 main_cst_6
  let main_v52 : IVec S5632x384 1 := cmpf .olt main_v46 main_v51
  let main_v53 : IVec S5632x384 1 := andi main_v50 main_v52
  let main_v54 : IVec S5632x384 1 := ori main_v48 main_v53
  let main_c_7 : IVec S_ 1 := constantI S_ 1 1#1
  let main_v55 : IVec S5632 1 := (fun x v => Host.reduce IntOp.andi x v reducesTo_S5632x384_S5632_d1 h_S_) main_v54 main_c_7
  let main_cst_8 : FVec F S_ .f32 := constant S_ .f32 0x3F26BD02#32
  let main_v56 : FVec F S5632x384 .f32 := broadcastInDim S5632x384 ![] bcast_S_S5632x384 main_cst_8
  let main_v57 : FVec F S5632x384 .f32 := Host.divf main_v40 main_v56
  let main_cst_9 : FVec F S_ .f32 := constant S_ .f32 0x3C231ACC#32
  let main_v58 : FVec F S5632x384 .f32 := broadcastInDim S5632x384 ![] bcast_S_S5632x384 main_cst_9
  let main_v59 : FVec F S5632x384 .f32 := Host.divf main_v46 main_v58
  fn_part3 (F := F) main_arg9 main_arg10 main_arg11 main_v14 main_v18 main_v54 main_v55 main_v57 main_v59

def fn_part1 {F : FTy → Type} [FloatOps F] (main_arg5 : IVec S5632x384 8) (main_arg6 : FVec F S5632x3 .f32) (main_arg7 : IVec S5632x384 8) (main_arg8 : FVec F S5632x3 .f32) (main_arg9 : IVec S5632x2048 8) (main_arg10 : FVec F S5632 .f32) (main_arg11 : IVec S5632x2048 8) (main_v14 : FVec F S384x1024 .bf16) (main_v18 : FVec F S384x1024 .bf16) (main_v20 : FVec F S5632x2048 .bf16) (main_v21 : FVec F S5632x1024 .bf16) : IVec S5632x2048 1 × IVec S1x5632 1 × IVec S5632x2048 1 × IVec S5632x384 1 × IVec S5632x384 1 × IVec S3x5632 1 × IVec S5632x384 1 × IVec S3x5632 1 :=
  let main_v22 : FVec F S5632x384 .f32 := (fun l r => Host.dotGeneral dot_S5632x1024_S384x1024_S5632x384_1_1_0_0_n_n none l r) main_v21 main_v14
  let main_v23 : FVec F S5632x1024 .bf16 := (Host.slice S5632x1024 ![0, 1] ![1, 2] · slicesBy_S5632x2048_S5632x1024_0s1_1s2) main_v20
  let main_v24 : FVec F S5632x384 .f32 := (fun l r => Host.dotGeneral dot_S5632x1024_S384x1024_S5632x384_1_1_0_0_n_n none l r) main_v23 main_v18
  let main_v25 : FVec F S5632x384 .f32 := addf main_v22 main_v24
  let main_v26 : IVec S5632x384 32 := (extsi 32 · natLt_8_32) main_arg5
  let main_v27 : FVec F S5632x384 .f32 := sitofp .f32 main_v26
  let main_v28 : FVec F S5632x3x128 .f32 := broadcastInDim S5632x3x128 ![0, 1] bcast_S5632x3_S5632x3x128_0_1 main_arg6
  let main_v29 : FVec F S5632x384 .f32 := shapeCast S5632x384 main_v28 shapeCasts_S5632x3x128_S5632x384
  let main_v30 : FVec F S5632x384 .f32 := mulf main_v27 main_v29
  let main_v31 : IVec S5632x384 32 := (extsi 32 · natLt_8_32) main_arg7
  let main_v32 : FVec F S5632x384 .f32 := sitofp .f32 main_v31
  let main_v33 : FVec F S5632x3x128 .f32 := broadcastInDim S5632x3x128 ![0, 1] bcast_S5632x3_S5632x3x128_0_1 main_arg8
  let main_v34 : FVec F S5632x384 .f32 := shapeCast S5632x384 main_v33 shapeCasts_S5632x3x128_S5632x384
  let main_v35 : FVec F S5632x384 .f32 := mulf main_v32 main_v34
  let main_cst : FVec F S_ .f32 := constant S_ .f32 0x3F666666#32
  let main_v36 : FVec F S5632x384 .f32 := broadcastInDim S5632x384 ![] bcast_S_S5632x384 main_cst
  let main_v37 : FVec F S5632x384 .f32 := mulf main_v36 main_v30
  let main_cst_1 : FVec F S_ .f32 := constant S_ .f32 0x3DCCCCCD#32
  let main_v38 : FVec F S5632x384 .f32 := broadcastInDim S5632x384 ![] bcast_S_S5632x384 main_cst_1
  let main_v39 : FVec F S5632x384 .f32 := mulf main_v38 main_v25
  let main_v40 : FVec F S5632x384 .f32 := addf main_v37 main_v39
  let main_cst_2 : FVec F S_ .f32 := constant S_ .f32 0x3F7FBE77#32
  let main_v41 : FVec F S5632x384 .f32 := broadcastInDim S5632x384 ![] bcast_S_S5632x384 main_cst_2
  let main_v42 : FVec F S5632x384 .f32 := mulf main_v41 main_v35
  fn_part2 (F := F) main_arg9 main_arg10 main_arg11 main_v14 main_v18 main_v25 main_v40 main_v42

def fn {F : FTy → Type} [FloatOps F] (main_arg0 : FVec F S1x256x2048 .bf16) (main_arg1 : FVec F S1x256x5632 .bf16) (main_arg2 : IVec S384x1024 8) (main_arg3 : FVec F S384x8 .f32) (main_arg4 : FVec F S384x8 .f32) (main_arg5 : IVec S5632x384 8) (main_arg6 : FVec F S5632x3 .f32) (main_arg7 : IVec S5632x384 8) (main_arg8 : FVec F S5632x3 .f32) (main_arg9 : IVec S5632x2048 8) (main_arg10 : FVec F S5632 .f32) (main_arg11 : IVec S5632x2048 8) : IVec S5632x2048 1 × IVec S1x5632 1 × IVec S5632x2048 1 × IVec S5632x384 1 × IVec S5632x384 1 × IVec S3x5632 1 × IVec S5632x384 1 × IVec S3x5632 1 :=
  let main_v0 : IVec S384x1024 32 := (extui 32 · natLt_8_32) main_arg2
  let main_c : IVec S_ 32 := constantI S_ 32 15#32
  let main_v1 : IVec S384x1024 32 := broadcastInDim S384x1024 ![] bcast_S_S384x1024 main_c
  let main_v2 : IVec S384x1024 32 := andi main_v0 main_v1
  let main_c_0 : IVec S_ 32 := constantI S_ 32 4#32
  let main_v3 : IVec S384x1024 32 := broadcastInDim S384x1024 ![] bcast_S_S384x1024 main_c_0
  let main_v4 : IVec S384x1024 32 := Host.shrsi main_v0 main_v3
  let main_v5 : FVec F S384x8x128 .f32 := broadcastInDim S384x8x128 ![0, 1] bcast_S384x8_S384x8x128_0_1 main_arg4
  let main_v6 : FVec F S384x1024 .f32 := shapeCast S384x1024 main_v5 shapeCasts_S384x8x128_S384x1024
  let main_v7 : FVec F S384x1024 .bf16 := (truncf .bf16 · bitsLt_bf16_f32) main_v6
  let main_v8 : FVec F S384x8x128 .f32 := broadcastInDim S384x8x128 ![0, 1] bcast_S384x8_S384x8x128_0_1 main_arg3
  let main_v9 : FVec F S384x1024 .f32 := shapeCast S384x1024 main_v8 shapeCasts_S384x8x128_S384x1024
  let main_v10 : FVec F S384x1024 .bf16 := (truncf .bf16 · bitsLt_bf16_f32) main_v9
  let main_v11 : FVec F S384x1024 .f32 := sitofp .f32 main_v2
  let main_v12 : FVec F S384x1024 .bf16 := (truncf .bf16 · bitsLt_bf16_f32) main_v11
  let main_v13 : FVec F S384x1024 .bf16 := subf main_v12 main_v7
  let main_v14 : FVec F S384x1024 .bf16 := mulf main_v13 main_v10
  let main_v15 : FVec F S384x1024 .f32 := sitofp .f32 main_v4
  let main_v16 : FVec F S384x1024 .bf16 := (truncf .bf16 · bitsLt_bf16_f32) main_v15
  let main_v17 : FVec F S384x1024 .bf16 := subf main_v16 main_v7
  let main_v18 : FVec F S384x1024 .bf16 := mulf main_v17 main_v10
  let main_v19 : FVec F S5632x2048 .f32 := (fun l r => Host.dotGeneral dot_S1x256x5632_S1x256x2048_S5632x2048_01_01_2_2_n_n none l r) main_arg1 main_arg0
  let main_v20 : FVec F S5632x2048 .bf16 := (truncf .bf16 · bitsLt_bf16_f32) main_v19
  let main_v21 : FVec F S5632x1024 .bf16 := (Host.slice S5632x1024 ![0, 0] ![1, 2] · slicesBy_S5632x2048_S5632x1024_0s1_0s2) main_v20
  fn_part1 (F := F) main_arg5 main_arg6 main_arg7 main_arg8 main_arg9 main_arg10 main_arg11 main_v14 main_v18 main_v20 main_v21
-- ==== Kernel.lean ====
abbrev S1x256x2048 : Shape := ⟨3, ![1, 256, 2048]⟩
abbrev S1x256x5632 : Shape := ⟨3, ![1, 256, 5632]⟩
abbrev S384x1024 : Shape := ⟨2, ![384, 1024]⟩
abbrev S384x8 : Shape := ⟨2, ![384, 8]⟩
abbrev S5632x384 : Shape := ⟨2, ![5632, 384]⟩
abbrev S5632x3 : Shape := ⟨2, ![5632, 3]⟩
abbrev S5632x2048 : Shape := ⟨2, ![5632, 2048]⟩
abbrev S5632 : Shape := ⟨1, ![5632]⟩
abbrev S256x2048 : Shape := ⟨2, ![256, 2048]⟩
abbrev S256x5632 : Shape := ⟨2, ![256, 5632]⟩
abbrev S3x5632 : Shape := ⟨2, ![3, 5632]⟩
abbrev S1x5632 : Shape := ⟨2, ![1, 5632]⟩
abbrev S256x256 : Shape := ⟨2, ![256, 256]⟩
abbrev S256x384 : Shape := ⟨2, ![256, 384]⟩
abbrev S3x256 : Shape := ⟨2, ![3, 256]⟩
abbrev S1x256 : Shape := ⟨2, ![1, 256]⟩
abbrev S2048x256 : Shape := ⟨2, ![2048, 256]⟩
abbrev S384x2048 : Shape := ⟨2, ![384, 2048]⟩
abbrev S384x128 : Shape := ⟨2, ![384, 128]⟩
abbrev S384x256 : Shape := ⟨2, ![384, 256]⟩
abbrev S384x1 : Shape := ⟨2, ![384, 1]⟩
abbrev S128x256 : Shape := ⟨2, ![128, 256]⟩
abbrev S256x128 : Shape := ⟨2, ![256, 128]⟩
abbrev S256 : Shape := ⟨1, ![256]⟩
abbrev S256x1 : Shape := ⟨2, ![256, 1]⟩

abbrev nBuf : Space → Nat
  | .hbm => 25
  | .vmem => 39
  | .smem => 0
  | _ => 0

abbrev bufTy : (tb : Table) → Fin (tcTables nBuf tb) → BufTy
  | .hbm, ⟨0, _⟩ => ⟨S1x256x2048, .bf16⟩
  | .hbm, ⟨1, _⟩ => ⟨S1x256x5632, .bf16⟩
  | .hbm, ⟨2, _⟩ => ⟨S384x1024, .i8⟩
  | .hbm, ⟨3, _⟩ => ⟨S384x8, .f32⟩
  | .hbm, ⟨4, _⟩ => ⟨S384x8, .f32⟩
  | .hbm, ⟨5, _⟩ => ⟨S5632x384, .i8⟩
  | .hbm, ⟨6, _⟩ => ⟨S5632x3, .f32⟩
  | .hbm, ⟨7, _⟩ => ⟨S5632x384, .i8⟩
  | .hbm, ⟨8, _⟩ => ⟨S5632x3, .f32⟩
  | .hbm, ⟨9, _⟩ => ⟨S5632x2048, .i8⟩
  | .hbm, ⟨10, _⟩ => ⟨S5632, .f32⟩
  | .hbm, ⟨11, _⟩ => ⟨S5632x2048, .i8⟩
  | .hbm, ⟨12, _⟩ => ⟨S256x2048, .bf16⟩
  | .hbm, ⟨13, _⟩ => ⟨S256x5632, .bf16⟩
  | .hbm, ⟨14, _⟩ => ⟨S3x5632, .f32⟩
  | .hbm, ⟨15, _⟩ => ⟨S3x5632, .f32⟩
  | .hbm, ⟨16, _⟩ => ⟨S1x5632, .f32⟩
  | .hbm, ⟨17, _⟩ => ⟨S5632x2048, .i8⟩
  | .hbm, ⟨18, _⟩ => ⟨S1x5632, .f32⟩
  | .hbm, ⟨19, _⟩ => ⟨S5632x2048, .f32⟩
  | .hbm, ⟨20, _⟩ => ⟨S5632x384, .f32⟩
  | .hbm, ⟨21, _⟩ => ⟨S5632x384, .i8⟩
  | .hbm, ⟨22, _⟩ => ⟨S3x5632, .f32⟩
  | .hbm, ⟨23, _⟩ => ⟨S5632x384, .i8⟩
  | .hbm, ⟨24, _⟩ => ⟨S3x5632, .f32⟩
  | .local _ .vmem, ⟨0, _⟩ => ⟨S256x2048, .bf16⟩
  | .local _ .vmem, ⟨1, _⟩ => ⟨S256x256, .bf16⟩
  | .local _ .vmem, ⟨2, _⟩ => ⟨S256x256, .bf16⟩
  | .local _ .vmem, ⟨3, _⟩ => ⟨S384x1024, .i8⟩
  | .local _ .vmem, ⟨4, _⟩ => ⟨S384x8, .f32⟩
  | .local _ .vmem, ⟨5, _⟩ => ⟨S384x8, .f32⟩
  | .local _ .vmem, ⟨6, _⟩ => ⟨S256x384, .i8⟩
  | .local _ .vmem, ⟨7, _⟩ => ⟨S256x384, .i8⟩
  | .local _ .vmem, ⟨8, _⟩ => ⟨S3x256, .f32⟩
  | .local _ .vmem, ⟨9, _⟩ => ⟨S3x256, .f32⟩
  | .local _ .vmem, ⟨10, _⟩ => ⟨S256x384, .i8⟩
  | .local _ .vmem, ⟨11, _⟩ => ⟨S256x384, .i8⟩
  | .local _ .vmem, ⟨12, _⟩ => ⟨S3x256, .f32⟩
  | .local _ .vmem, ⟨13, _⟩ => ⟨S3x256, .f32⟩
  | .local _ .vmem, ⟨14, _⟩ => ⟨S256x2048, .i8⟩
  | .local _ .vmem, ⟨15, _⟩ => ⟨S256x2048, .i8⟩
  | .local _ .vmem, ⟨16, _⟩ => ⟨S1x256, .f32⟩
  | .local _ .vmem, ⟨17, _⟩ => ⟨S1x256, .f32⟩
  | .local _ .vmem, ⟨18, _⟩ => ⟨S256x2048, .i8⟩
  | .local _ .vmem, ⟨19, _⟩ => ⟨S256x2048, .i8⟩
  | .local _ .vmem, ⟨20, _⟩ => ⟨S256x2048, .i8⟩
  | .local _ .vmem, ⟨21, _⟩ => ⟨S256x2048, .i8⟩
  | .local _ .vmem, ⟨22, _⟩ => ⟨S1x256, .f32⟩
  | .local _ .vmem, ⟨23, _⟩ => ⟨S1x256, .f32⟩
  | .local _ .vmem, ⟨24, _⟩ => ⟨S256x2048, .f32⟩
  | .local _ .vmem, ⟨25, _⟩ => ⟨S256x2048, .f32⟩
  | .local _ .vmem, ⟨26, _⟩ => ⟨S256x384, .f32⟩
  | .local _ .vmem, ⟨27, _⟩ => ⟨S256x384, .f32⟩
  | .local _ .vmem, ⟨28, _⟩ => ⟨S256x384, .i8⟩
  | .local _ .vmem, ⟨29, _⟩ => ⟨S256x384, .i8⟩
  | .local _ .vmem, ⟨30, _⟩ => ⟨S3x256, .f32⟩
  | .local _ .vmem, ⟨31, _⟩ => ⟨S3x256, .f32⟩
  | .local _ .vmem, ⟨32, _⟩ => ⟨S256x384, .i8⟩
  | .local _ .vmem, ⟨33, _⟩ => ⟨S256x384, .i8⟩
  | .local _ .vmem, ⟨34, _⟩ => ⟨S3x256, .f32⟩
  | .local _ .vmem, ⟨35, _⟩ => ⟨S3x256, .f32⟩
  | .local _ .vmem, ⟨36, _⟩ => ⟨S2048x256, .bf16⟩
  | .local _ .vmem, ⟨37, _⟩ => ⟨S384x2048, .bf16⟩
  | .local _ .vmem, ⟨38, _⟩ => ⟨S256x2048, .f32⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x384 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x384 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S3x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x384 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S3x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== ReferenceIdeal.lean ====
abbrev S1x256x2048 : Shape := ⟨3, ![1, 256, 2048]⟩
abbrev S1x256x5632 : Shape := ⟨3, ![1, 256, 5632]⟩
abbrev S384x1024 : Shape := ⟨2, ![384, 1024]⟩
abbrev S384x8 : Shape := ⟨2, ![384, 8]⟩
abbrev S5632x384 : Shape := ⟨2, ![5632, 384]⟩
abbrev S5632x3 : Shape := ⟨2, ![5632, 3]⟩
abbrev S5632x2048 : Shape := ⟨2, ![5632, 2048]⟩
abbrev S5632 : Shape := ⟨1, ![5632]⟩
abbrev S_ : Shape := ⟨0, ![]⟩
abbrev S384x8x128 : Shape := ⟨3, ![384, 8, 128]⟩
abbrev S5632x1024 : Shape := ⟨2, ![5632, 1024]⟩
abbrev S5632x3x128 : Shape := ⟨3, ![5632, 3, 128]⟩
abbrev S5632x3x1 : Shape := ⟨3, ![5632, 3, 1]⟩
abbrev S5632x1024x1 : Shape := ⟨3, ![5632, 1024, 1]⟩
abbrev S5632x1024x2 : Shape := ⟨3, ![5632, 1024, 2]⟩
abbrev S5632x1 : Shape := ⟨2, ![5632, 1]⟩
abbrev S1x5632 : Shape := ⟨2, ![1, 5632]⟩
abbrev S3x5632 : Shape := ⟨2, ![3, 5632]⟩

abbrev nBuf : Space → Nat
  | .hbm => 179
  | .vmem => 0
  | .smem => 0
  | _ => 0

abbrev hbmTy0_0 (i : Nat) : BufTy := match i % 128 with
  | 0 => ⟨S1x256x2048, .bf16⟩
  | 1 => ⟨S1x256x5632, .bf16⟩
  | 2 => ⟨S384x1024, .i8⟩
  | 3 => ⟨S384x8, .f32⟩
  | 4 => ⟨S384x8, .f32⟩
  | 5 => ⟨S5632x384, .i8⟩
  | 6 => ⟨S5632x3, .f32⟩
  | 7 => ⟨S5632x384, .i8⟩
  | 8 => ⟨S5632x3, .f32⟩
  | 9 => ⟨S5632x2048, .i8⟩
  | 10 => ⟨S5632, .f32⟩
  | 11 => ⟨S5632x2048, .i8⟩
  | 12 => ⟨S384x1024, .i32⟩
  | 13 => ⟨S_, .i32⟩
  | 14 => ⟨S384x1024, .i32⟩
  | 15 => ⟨S384x1024, .i32⟩
  | 16 => ⟨S_, .i32⟩
  | 17 => ⟨S384x1024, .i32⟩
  | 18 => ⟨S384x1024, .i32⟩
  | 19 => ⟨S384x8x128, .f32⟩
  | 20 => ⟨S384x1024, .f32⟩
  | 21 => ⟨S384x1024, .bf16⟩
  | 22 => ⟨S384x8x128, .f32⟩
  | 23 => ⟨S384x1024, .f32⟩
  | 24 => ⟨S384x1024, .bf16⟩
  | 25 => ⟨S384x1024, .f32⟩
  | 26 => ⟨S384x1024, .bf16⟩
  | 27 => ⟨S384x1024, .bf16⟩
  | 28 => ⟨S384x1024, .bf16⟩
  | 29 => ⟨S384x1024, .f32⟩
  | 30 => ⟨S384x1024, .bf16⟩
  | 31 => ⟨S384x1024, .bf16⟩
  | 32 => ⟨S384x1024, .bf16⟩
  | 33 => ⟨S5632x2048, .f32⟩
  | 34 => ⟨S5632x2048, .bf16⟩
  | 35 => ⟨S5632x1024, .bf16⟩
  | 36 => ⟨S5632x384, .f32⟩
  | 37 => ⟨S5632x1024, .bf16⟩
  | 38 => ⟨S5632x384, .f32⟩
  | 39 => ⟨S5632x384, .f32⟩
  | 40 => ⟨S5632x384, .i32⟩
  | 41 => ⟨S5632x384, .f32⟩
  | 42 => ⟨S5632x3x128, .f32⟩
  | 43 => ⟨S5632x384, .f32⟩
  | 44 => ⟨S5632x384, .f32⟩
  | 45 => ⟨S5632x384, .i32⟩
  | 46 => ⟨S5632x384, .f32⟩
  | 47 => ⟨S5632x3x128, .f32⟩
  | 48 => ⟨S5632x384, .f32⟩
  | 49 => ⟨S5632x384, .f32⟩
  | 50 => ⟨S_, .f32⟩
  | 51 => ⟨S5632x384, .f32⟩
  | 52 => ⟨S5632x384, .f32⟩
  | 53 => ⟨S_, .f32⟩
  | 54 => ⟨S5632x384, .f32⟩
  | 55 => ⟨S5632x384, .f32⟩
  | 56 => ⟨S5632x384, .f32⟩
  | 57 => ⟨S_, .f32⟩
  | 58 => ⟨S5632x384, .f32⟩
  | 59 => ⟨S5632x384, .f32⟩
  | 60 => ⟨S_, .f32⟩
  | 61 => ⟨S5632x384, .f32⟩
  | 62 => ⟨S5632x384, .f32⟩
  | 63 => ⟨S5632x384, .f32⟩
  | 64 => ⟨S5632x384, .f32⟩
  | 65 => ⟨S_, .f32⟩
  | 66 => ⟨S5632x384, .f32⟩
  | 67 => ⟨S5632x384, .f32⟩
  | 68 => ⟨S_, .f32⟩
  | 69 => ⟨S5632x384, .f32⟩
  | 70 => ⟨S5632x384, .f32⟩
  | 71 => ⟨S5632x384, .f32⟩
  | 72 => ⟨S_, .f32⟩
  | 73 => ⟨S5632x384, .f32⟩
  | 74 => ⟨S5632x384, .f32⟩
  | 75 => ⟨S5632x384, .f32⟩
  | 76 => ⟨S5632x3x128, .f32⟩
  | 77 => ⟨S5632x3x128, .f32⟩
  | 78 => ⟨S_, .f32⟩
  | 79 => ⟨S5632x3, .f32⟩
  | 80 => ⟨S_, .f32⟩
  | 81 => ⟨S5632x3, .f32⟩
  | 82 => ⟨S5632x3, .i1⟩
  | 83 => ⟨S_, .f32⟩
  | 84 => ⟨S5632x3, .f32⟩
  | 85 => ⟨S_, .f32⟩
  | 86 => ⟨S5632x3, .f32⟩
  | 87 => ⟨S5632x3, .f32⟩
  | 88 => ⟨S5632x3, .f32⟩
  | 89 => ⟨S5632x3x128, .f32⟩
  | 90 => ⟨S5632x3x128, .f32⟩
  | 91 => ⟨S_, .f32⟩
  | 92 => ⟨S5632x3, .f32⟩
  | 93 => ⟨S_, .f32⟩
  | 94 => ⟨S5632x3, .f32⟩
  | 95 => ⟨S5632x3, .i1⟩
  | 96 => ⟨S_, .f32⟩
  | 97 => ⟨S5632x3, .f32⟩
  | 98 => ⟨S_, .f32⟩
  | 99 => ⟨S5632x3, .f32⟩
  | 100 => ⟨S5632x3, .f32⟩
  | 101 => ⟨S5632x3, .f32⟩
  | 102 => ⟨S5632x3x128, .f32⟩
  | 103 => ⟨S5632x3x1, .f32⟩
  | 104 => ⟨S5632x3x128, .f32⟩
  | 105 => ⟨S5632x3x128, .f32⟩
  | 106 => ⟨S5632x3x128, .f32⟩
  | 107 => ⟨S_, .f32⟩
  | 108 => ⟨S5632x3x128, .f32⟩
  | 109 => ⟨S5632x3x128, .f32⟩
  | 110 => ⟨S_, .f32⟩
  | 111 => ⟨S5632x3x128, .f32⟩
  | 112 => ⟨S5632x3x128, .f32⟩
  | 113 => ⟨S5632x3x128, .i32⟩
  | 114 => ⟨S5632x3x128, .i8⟩
  | 115 => ⟨S5632x384, .i8⟩
  | 116 => ⟨S5632x3x128, .f32⟩
  | 117 => ⟨S5632x3x1, .f32⟩
  | 118 => ⟨S5632x3x128, .f32⟩
  | 119 => ⟨S5632x3x128, .f32⟩
  | 120 => ⟨S5632x3x128, .f32⟩
  | 121 => ⟨S_, .f32⟩
  | 122 => ⟨S5632x3x128, .f32⟩
  | 123 => ⟨S5632x3x128, .f32⟩
  | 124 => ⟨S_, .f32⟩
  | 125 => ⟨S5632x3x128, .f32⟩
  | 126 => ⟨S5632x3x128, .f32⟩
  | 127 => ⟨S5632x3x128, .i32⟩
  | _ => ⟨S1x256x2048, .bf16⟩

abbrev hbmTy0_1 (i : Nat) : BufTy := match i % 128 with
  | 0 => ⟨S5632x3x128, .i8⟩
  | 1 => ⟨S5632x384, .i8⟩
  | 2 => ⟨S5632x384, .bf16⟩
  | 3 => ⟨S5632x1024, .f32⟩
  | 4 => ⟨S5632x1024, .f32⟩
  | 5 => ⟨S5632x1024x1, .f32⟩
  | 6 => ⟨S5632x1024x1, .f32⟩
  | 7 => ⟨S5632x1024x2, .f32⟩
  | 8 => ⟨S5632x2048, .f32⟩
  | 9 => ⟨S_, .f32⟩
  | 10 => ⟨S5632x2048, .f32⟩
  | 11 => ⟨S5632x2048, .f32⟩
  | 12 => ⟨S5632x2048, .i32⟩
  | 13 => ⟨S5632x2048, .f32⟩
  | 14 => ⟨S5632x1, .f32⟩
  | 15 => ⟨S5632x2048, .f32⟩
  | 16 => ⟨S5632x2048, .f32⟩
  | 17 => ⟨S5632x2048, .f32⟩
  | 18 => ⟨S5632x2048, .f32⟩
  | 19 => ⟨S_, .f32⟩
  | 20 => ⟨S5632, .f32⟩
  | 21 => ⟨S_, .f32⟩
  | 22 => ⟨S5632, .f32⟩
  | 23 => ⟨S5632, .i1⟩
  | 24 => ⟨S_, .f32⟩
  | 25 => ⟨S5632, .f32⟩
  | 26 => ⟨S_, .f32⟩
  | 27 => ⟨S5632, .f32⟩
  | 28 => ⟨S5632, .f32⟩
  | 29 => ⟨S5632, .f32⟩
  | 30 => ⟨S5632x2048, .i32⟩
  | 31 => ⟨S5632x2048, .f32⟩
  | 32 => ⟨S_, .f32⟩
  | 33 => ⟨S5632x2048, .f32⟩
  | 34 => ⟨S5632x2048, .f32⟩
  | 35 => ⟨S5632x1, .f32⟩
  | 36 => ⟨S5632x2048, .f32⟩
  | 37 => ⟨S5632x2048, .f32⟩
  | 38 => ⟨S5632x2048, .f32⟩
  | 39 => ⟨S5632x2048, .f32⟩
  | 40 => ⟨S_, .f32⟩
  | 41 => ⟨S5632x2048, .f32⟩
  | 42 => ⟨S5632x2048, .f32⟩
  | 43 => ⟨S_, .f32⟩
  | 44 => ⟨S5632x2048, .f32⟩
  | 45 => ⟨S5632x2048, .f32⟩
  | 46 => ⟨S5632x2048, .i32⟩
  | 47 => ⟨S5632x2048, .i8⟩
  | 48 => ⟨S1x5632, .f32⟩
  | 49 => ⟨S3x5632, .f32⟩
  | 50 => ⟨S3x5632, .f32⟩
  | _ => ⟨S1x256x2048, .bf16⟩

abbrev hbmTy (i : Nat) : BufTy := match i / 128 with
  | 0 => hbmTy0_0 i
  | 1 => hbmTy0_1 i
  | _ => ⟨S1x256x2048, .bf16⟩

abbrev bufTy : (tb : Table) → Fin (tcTables nBuf tb) → BufTy
  | .hbm, ⟨i, _⟩ => hbmTy i
  | _, _ => ⟨S1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_17 : Ref sig .tc := ⟨.hbm, 121, rfl⟩
abbrev main_v90 : Ref sig .tc := ⟨.hbm, 122, rfl⟩
abbrev main_v91 : Ref sig .tc := ⟨.hbm, 123, rfl⟩
abbrev main_cst_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_19 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_20 : Ref sig .tc := ⟨.hbm, 147, rfl⟩
abbrev main_v113 : Ref sig .tc := ⟨.hbm, 148, rfl⟩
abbrev main_cst_21 : Ref sig .tc := ⟨.hbm, 149, rfl⟩
abbrev main_v114 : Ref sig .tc := ⟨.hbm, 150, rfl⟩
abbrev main_v115 : Ref sig .tc := ⟨.hbm, 151, rfl⟩
abbrev main_cst_22 : Ref sig .tc := ⟨.hbm, 152, rfl⟩
abbrev main_v116 : Ref sig .tc := ⟨.hbm, 153, rfl⟩
abbrev main_cst_23 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_24 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_25 : Ref sig .tc := ⟨.hbm, 168, rfl⟩
abbrev main_v129 : Ref sig .tc := ⟨.hbm, 169, rfl⟩
abbrev main_v130 : Ref sig .tc := ⟨.hbm, 170, rfl⟩
abbrev main_cst_26 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩

abbrev nD : Nat := 1
abbrev τ : Topo := Topo.v7x

variable {F : FTy → Type} [FloatOps F]
-- ==== Proof.Scalars.lean ====
/- The scalar mathematics of one step, over the extended reals: the scale of a quantized group, the signed code of a
   value over its scale, the update direction, and the dithered weight code. Each is stated once in the form the
   reference computes it; the theorems say the form the kernel computes is the same number. -/
module

public import Idealize.ShloMosaic.PureOps.Ideal.Laws

@[expose] public section

noncomputable section

namespace Cert.Scalars

open Idealize.ShloMosaic

/-! ## The literals -/

theorem lit_one : Ideal.ofBits .f32 0x3F800000#32 = 1 := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_neg127 : Ideal.ofBits .f32 0xC2FE0000#32 = ((-127 : ℝ) : EReal) := by
  simp [Ideal.ofBits, Ideal.ieee, -EReal.coe_mul]; norm_num
theorem lit_two24 : Ideal.ofBits .f32 0x4B800000#32 = ((16777216 : ℝ) : EReal) := by
  simp [Ideal.ofBits, Ideal.ieee, -EReal.coe_mul]; norm_num
theorem lit_hi : Ideal.ofBits .f32 0x4EFE0000#32 = ((127 * 16777216 : ℝ) : EReal) := by
  simp [Ideal.ofBits, Ideal.ieee, -EReal.coe_mul]; norm_num
theorem lit_lo : Ideal.ofBits .f32 0xCEFE0000#32 = ((-(127 * 16777216) : ℝ) : EReal) := by
  simp [Ideal.ofBits, Ideal.ieee, -EReal.coe_mul]; norm_num
theorem lit_256 : Ideal.ofBits .f32 0x3B800000#32 = ((1 / 256 : ℝ) : EReal) := by
  simp [Ideal.ofBits, Ideal.ieee, -EReal.coe_mul]; norm_num
theorem lit_bc1 : Ideal.ofBits .f32 0x3F26BD02#32 = ((5463681 / 8388608 : ℝ) : EReal) := by
  simp [Ideal.ofBits, Ideal.ieee, -EReal.coe_mul]; norm_num
theorem lit_bc2 : Ideal.ofBits .f32 0x3C231ACC#32 = ((2672307 / 268435456 : ℝ) : EReal) := by
  simp [Ideal.ofBits, Ideal.ieee, -EReal.coe_mul]; norm_num
theorem lit_tiny : ∃ r : ℝ, 0 < r ∧ r ≤ 2 ^ (-122 : ℤ) ∧ Ideal.ofBits .f32 0x02081CEA#32 = (r : EReal) := by
  refine ⟨(2 ^ 23 + 531690 : ℕ) * (2 : ℝ) ^ (-146 : ℤ), by positivity, ?_, ?_⟩
  · norm_num
  · simp [Ideal.ofBits, Ideal.ieee, -EReal.coe_mul]
theorem lit_eps : ∃ r : ℝ, 0 < r ∧ Ideal.ofBits .f32 0x322BCC77#32 = (r : EReal) := by
  refine ⟨(2 ^ 23 + 2870391 : ℕ) * (2 : ℝ) ^ (-50 : ℤ), by positivity, ?_⟩
  simp [Ideal.ofBits, Ideal.ieee, -EReal.coe_mul]
theorem lit_min : Ideal.ofBits .f32 0x00800000#32 = (((2 : ℝ) ^ (-126 : ℤ) : ℝ) : EReal) := by
  simp [Ideal.ofBits, Ideal.ieee, -EReal.coe_mul]; norm_num
theorem lit_inf : Ideal.ofBits .f32 0x7F800000#32 = ⊤ := by
  simp [Ideal.ofBits, Ideal.ieee, -EReal.coe_mul]
theorem lit_neginf : Ideal.ofBits .f32 0xFF800000#32 = ⊥ := by
  simp [Ideal.ofBits, Ideal.ieee, -EReal.coe_mul]
theorem lit_frac : Ideal.ofBits .f32 0x3F7FFFFF#32 = ((16777215 / 16777216 : ℝ) : EReal) := by
  simp [Ideal.ofBits, Ideal.ieee, -EReal.coe_mul]; norm_num

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-! ## The scale of a quantized group -/

/-- The scale of a group whose largest magnitude is `a`: `a / 127`, and 1 for a group of zeros. -/
def scaleOf (a : EReal) : EReal :=
  Scalar.select (Ideal.cmp .oeq a (Ideal.ofBits .f32 0x00000000#32)) (Ideal.ofBits .f32 0x3F800000#32)
    (Ideal.div a (Ideal.ofBits .f32 0x42FE0000#32))

theorem scaleOf_eq (a : EReal) : scaleOf a = if a = 0 then 1 else a * ((1 / 127 : ℝ) : EReal) := by
  unfold scaleOf
  rw [lit_one, lit_127, Ideal.div_coe (by norm_num), show Ideal.ofBits .f32 0x00000000#32 = 0 from Ideal.ofBits_zero_f32]
  by_cases h : a = 0 <;> simp [Scalar.select, Ideal.cmp, h]

/-- A scale is never zero. -/
theorem scaleOf_ne_zero (a : EReal) : scaleOf a ≠ 0 := by
  rw [scaleOf_eq]
  split
  · exact one_ne_zero
  · rename_i h
    intro h0
    rcases mul_eq_zero.mp h0 with h1 | h1
    · exact h h1
    · have : ((1 / 127 : ℝ) : EReal) = ((0 : ℝ) : EReal) := h1
      rw [EReal.coe_eq_coe_iff] at this
      norm_num at this

/-- Off zero a quotient is a product with the reciprocal. -/
theorem div_eq {x y : EReal} (h : y ≠ 0) : Ideal.div x y = x * y⁻¹ := by
  unfold Ideal.div; rw [if_neg h]

/-- Multiplying by the reciprocal of a nonzero number is dividing by it. -/
theorem mul_recip {x y : EReal} (h : y ≠ 0) :
    x * Ideal.div (Ideal.ofBits .f32 0x3F800000#32) y = Ideal.div x y := by
  rw [div_eq h, div_eq h, lit_one, one_mul]

/-! ## The signed code of a value in its group -/

/-- The code of `x` under the scale `s`: `x / s` rounded to the nearest integer and clamped to ±127. -/
def codeOf (x s : EReal) : BitVec 8 :=
  (Ideal.fptosi 32 (min (max (Ideal.liftRound Ideal.roundHalfEven (Ideal.div x s)) (Ideal.ofBits .f32 0xC2FE0000#32))
    (Ideal.ofBits .f32 0x42FE0000#32))).setWidth 8

/-- The kernel's code — by the reciprocal of the scale, through sixteen bits — is the same code. -/
theorem kernel_code (x a : EReal) :
    ((Ideal.fptosi 32 (min (Ideal.ofBits .f32 0x42FE0000#32) (max (Ideal.ofBits .f32 0xC2FE0000#32)
      (Ideal.liftRound Ideal.roundHalfEven
        (x * Ideal.div (Ideal.ofBits .f32 0x3F800000#32) (scaleOf a)))))).setWidth 16).setWidth 8
      = codeOf x (scaleOf a) := by
  rw [mul_recip (scaleOf_ne_zero a), codeOf, max_comm, min_comm]
  generalize Ideal.fptosi 32 _ = z
  exact BitVec.setWidth_setWidth_of_le z (by norm_num)

/-! ## The update direction -/

/-- The update direction of moments `m` and `v`, as the reference writes it. -/
def dirOf (m v : EReal) : EReal :=
  Ideal.div (Ideal.div m (Ideal.ofBits .f32 0x3F26BD02#32))
    (Ideal.sqrt (Ideal.div v (Ideal.ofBits .f32 0x3C231ACC#32)) + Ideal.ofBits .f32 0x322BCC77#32)

/-- The numbers on which the kernel's square root is exact: zero, and the normal numbers below infinity. -/
def Good (v : EReal) : Prop :=
  v = 0 ∨ (Ideal.ofBits .f32 0x00800000#32 ≤ v ∧ v < Ideal.ofBits .f32 0x7F800000#32)

/-- The kernel's direction — by the folded reciprocals of the two corrections, the root as `v · (1/√v)` with a tiny
    floor under the inner `v`, and a reciprocal — is the reference's wherever `v` is good. -/
theorem kernel_dir (m v : EReal) (hv : Good v) :
    (m * ((8388608 / 5463681 : ℝ) : EReal)) * Ideal.div (Ideal.ofBits .f32 0x3F800000#32)
        ((v * ((268435456 / 2672307 : ℝ) : EReal))
            * Ideal.rsqrt (max (v * ((268435456 / 2672307 : ℝ) : EReal)) (Ideal.ofBits .f32 0x02081CEA#32))
          + Ideal.ofBits .f32 0x322BCC77#32)
      = dirOf m v := by
  obtain ⟨t, ht0, ht1, ht⟩ := lit_tiny
  obtain ⟨e, he0, he⟩ := lit_eps
  have hroot : ∃ q : ℝ, 0 ≤ q ∧
      (v * ((268435456 / 2672307 : ℝ) : EReal))
            * Ideal.rsqrt (max (v * ((268435456 / 2672307 : ℝ) : EReal)) (Ideal.ofBits .f32 0x02081CEA#32)) = (q : EReal)
      ∧ Ideal.sqrt (Ideal.div v (Ideal.ofBits .f32 0x3C231ACC#32)) = (q : EReal) := by
    rw [ht, lit_bc2, Ideal.div_coe (by norm_num)]
    rcases hv with rfl | ⟨h1, h2⟩
    · refine ⟨0, le_refl _, by rw [zero_mul, zero_mul]; rfl, ?_⟩
      rw [zero_mul, show (0 : EReal) = ((0 : ℝ) : EReal) from rfl, Ideal.sqrt_coe]
      simp
    · rw [lit_min] at h1
      rw [lit_inf] at h2
      induction v with
      | bot => simp at h1
      | top => simp at h2
      | coe r =>
        rw [EReal.coe_le_coe_iff] at h1
        have hp : (0 : ℝ) < (2 : ℝ) ^ (-126 : ℤ) := by positivity
        have hr : 0 < r := lt_of_lt_of_le hp h1
        have h128 : (1 / (2672307 / 268435456) : ℝ) = 268435456 / 2672307 := by norm_num
        rw [h128, ← EReal.coe_mul]
        set w : ℝ := r * (268435456 / 2672307) with hw
        have hw0 : 0 < w := by positivity
        have htw : t ≤ w := by
          refine le_trans ht1 ?_
          have : (2 : ℝ) ^ (-122 : ℤ) = (2 : ℝ) ^ (-126 : ℤ) * 16 := by norm_num
          rw [this, hw]
          have h3 := mul_le_mul_of_nonneg_right h1 (by norm_num : (0 : ℝ) ≤ 268435456 / 2672307)
          refine le_trans (mul_le_mul_of_nonneg_left (by norm_num) hp.le) h3
        have hmax : max (w : EReal) (t : EReal) = (w : EReal) := max_eq_left (EReal.coe_le_coe_iff.mpr htw)
        refine ⟨Real.sqrt w, Real.sqrt_nonneg w, ?_, ?_⟩
        · rw [hmax, Ideal.rsqrt_coe, if_neg (not_lt.mpr hw0.le), if_neg hw0.ne', ← EReal.coe_mul, EReal.coe_eq_coe_iff]
          have hs : Real.sqrt w ≠ 0 := (Real.sqrt_pos.mpr hw0).ne'
          field_simp
          exact (Real.sq_sqrt hw0.le).symm
        · rw [Ideal.sqrt_coe, if_neg (not_lt.mpr hw0.le)]
  obtain ⟨q, hq0, hk, hr⟩ := hroot
  have hne : ((q : EReal) + (e : EReal)) ≠ 0 := by
    rw [← EReal.coe_add]
    exact_mod_cast (by positivity : (q + e : ℝ) ≠ 0)
  rw [dirOf, hk, hr, he, mul_recip hne, lit_bc1, Ideal.div_coe (by norm_num) m]
  norm_num

/-! ## The dithered weight code -/

/-- The weight code of `w` under the scale `s` with dither `b`: `⌊w/s + b/256⌋` clamped to ±127. -/
def ditherOf (w s b : EReal) : EReal := Ideal.div w s + b * Ideal.ofBits .f32 0x3B800000#32

def wcodeOf (y : EReal) : BitVec 8 :=
  (Ideal.fptosi 32 (min (max (Ideal.liftRound Int.floor y) (Ideal.ofBits .f32 0xC2FE0000#32))
    (Ideal.ofBits .f32 0x42FE0000#32))).setWidth 8

/-- An integer clamped to a range of thirty-two bits converts to itself. -/
theorem fptosi_int (k : ℤ) (h1 : -2147483648 ≤ k) (h2 : k ≤ 2147483647) :
    Ideal.fptosi 32 (((k : ℝ) : ℝ) : EReal) = BitVec.ofInt 32 k := by
  unfold Ideal.fptosi
  rw [Ideal.toIntClamped_coe, Int.floor_intCast, Int.ceil_intCast, ite_self]
  congr 1
  norm_num
  omega

/-- Rounding to the nearest integer leaves an integer where it is. -/
theorem roundHalfEven_int (k : ℤ) : Ideal.roundHalfEven (k : ℝ) = k := by
  simp [Ideal.roundHalfEven]

theorem roundHalfEven_lower {k : ℤ} {x : ℝ} (h : (k : ℝ) ≤ x) : k ≤ Ideal.roundHalfEven x := by
  have hf : k ≤ ⌊x⌋ := Int.le_floor.mpr h
  unfold Ideal.roundHalfEven
  dsimp only
  split_ifs <;> omega

theorem roundHalfEven_upper {k : ℤ} {x : ℝ} (h : x ≤ (k : ℝ)) : Ideal.roundHalfEven x ≤ k := by
  have hf : ⌊x⌋ ≤ k := by
    have := Int.floor_le x
    exact_mod_cast this.trans h
  unfold Ideal.roundHalfEven
  dsimp only
  by_cases hk : ⌊x⌋ = k
  · have : x - ⌊x⌋ < 1 / 2 := by rw [hk]; linarith
    rw [if_pos this, hk]
  · split_ifs <;> omega

/-- A word of thirty-two bits whose number is in range reads as that number. -/
theorem toInt_ofInt32 (n : ℤ) (h1 : -2147483648 ≤ n) (h2 : n ≤ 2147483647) : (BitVec.ofInt 32 n).toInt = n := by
  rw [BitVec.toInt_ofInt]
  exact Int.bmod_eq_of_le (by norm_num; omega) (by norm_num; omega)

/-- Adding the dither in units of `2¹⁶` and shifting right by twenty-four bits is dividing by `2²⁴`, rounding down. -/
theorem shift_code (q k : ℤ) (sr : BitVec 8)
    (h1 : k * 16777216 ≤ q + sr.toNat * 65536) (h2 : q + sr.toNat * 65536 ≤ (k + 1) * 16777216 - 1)
    (hk1 : -127 ≤ k) (hk2 : k ≤ 127) :
    (IntOp.shrsi .vector (IntOp.addi (BitVec.ofInt 32 q) (IntOp.shli .vector (sr.setWidth 32) 16#32)) 24#32).setWidth 8
      = (BitVec.ofInt 32 k).setWidth 8 := by
  have hb : sr.toNat < 256 := sr.isLt
  have hs : IntOp.shli .vector (sr.setWidth 32) 16#32 = BitVec.ofInt 32 (sr.toNat * 65536) := by
    show (if (16#32 : BitVec 32).toNat < 32 then (sr.setWidth 32) <<< (16#32 : BitVec 32) else _) = _
    rw [if_pos (by decide)]
    apply BitVec.eq_of_toNat_eq
    have h : (sr.toNat * 65536 : ℤ) = ((sr.toNat * 65536 : ℕ) : ℤ) := by norm_num
    rw [h, BitVec.ofInt_natCast, BitVec.shiftLeft_eq', BitVec.toNat_shiftLeft, BitVec.toNat_setWidth, BitVec.toNat_ofNat,
      Nat.shiftLeft_eq]
    norm_num
  rw [hs]
  show (IntOp.shrsi .vector (BitVec.ofInt 32 q + BitVec.ofInt 32 (sr.toNat * 65536)) 24#32).setWidth 8 = _
  rw [← BitVec.ofInt_add]
  show (if (24#32 : BitVec 32).toNat < 32 then BitVec.sshiftRight' _ _ else _ : BitVec 32).setWidth 8 = _
  rw [if_pos (by decide)]
  congr 1
  apply BitVec.eq_of_toInt_eq
  rw [show ∀ x : BitVec 32, BitVec.sshiftRight' x 24#32 = x.sshiftRight 24 from fun _ => rfl, BitVec.toInt_sshiftRight, toInt_ofInt32 _ (by omega) (by omega),
    toInt_ofInt32 _ (by omega) (by omega), Int.shiftRight_eq_div_pow]
  norm_num
  omega

/-- The kernel's word for a scaled weight. -/
def kernelWord (t : EReal) (sr : BitVec 8) : BitVec 8 :=
  (IntOp.shrsi .vector (IntOp.addi
    (Ideal.fptosi 32 (Ideal.liftRound Ideal.roundHalfEven
      (min (Ideal.ofBits .f32 0x4EFE0000#32) (max (Ideal.ofBits .f32 0xCEFE0000#32) t))))
    (IntOp.shli .vector (sr.setWidth 32) 16#32)) 24#32).setWidth 8

/-- The dither as a number. -/
theorem dither_num (sr : BitVec 8) : (((sr.setWidth 32).toInt : ℝ) : EReal) = (((sr.toNat : ℝ)) : EReal) := by
  have hb : sr.toNat < 256 := sr.isLt
  have : (sr.setWidth 32).toInt = (sr.toNat : ℤ) := by
    rw [BitVec.toInt_setWidth]
    exact Int.bmod_eq_of_le (by norm_num <;> omega) (by norm_num <;> omega)
  rw [this]; rfl

/-- The reference's weight code of a real number below, in and above the clamp. -/
theorem wcode_real (y : ℝ) : wcodeOf (y : EReal) = (BitVec.ofInt 32 (min (max ⌊y⌋ (-127)) 127)).setWidth 8 := by
  unfold wcodeOf
  rw [lit_neg127, lit_127, Ideal.liftRound_coe]
  have : min (max ((⌊y⌋ : ℝ) : EReal) ((-127 : ℝ) : EReal)) ((127 : ℝ) : EReal)
      = (((min (max ⌊y⌋ (-127)) 127 : ℤ) : ℝ) : EReal) := by
    rw [← coe_max, ← coe_min]; push_cast; rfl
  rw [this, fptosi_int _ (by omega) (by omega)]

/-- Scaling by the scale's reciprocal times `2²⁴` is dividing by the scale and then scaling. -/
theorem scaled (w : EReal) {s : EReal} (hs : s ≠ 0) :
    w * (Ideal.div (Ideal.ofBits .f32 0x3F800000#32) s * Ideal.ofBits .f32 0x4B800000#32)
      = Ideal.div w s * ((16777216 : ℝ) : EReal) := by
  rw [← mul_assoc, mul_recip hs, lit_two24]

/-- The kernel's weight code is the reference's wherever the dithered quotient is not within `2⁻²⁴` below an
    integer. -/
theorem kernel_wcode (w s : EReal) (hs : s ≠ 0) (sr : BitVec 8)
    (hy : ditherOf w s (((sr.setWidth 32).toInt : ℝ) : EReal)
        - Ideal.liftRound Int.floor (ditherOf w s (((sr.setWidth 32).toInt : ℝ) : EReal))
      ≤ Ideal.ofBits .f32 0x3F7FFFFF#32) :
    kernelWord (w * (Ideal.div (Ideal.ofBits .f32 0x3F800000#32) s * Ideal.ofBits .f32 0x4B800000#32)) sr
      = wcodeOf (ditherOf w s (((sr.setWidth 32).toInt : ℝ) : EReal)) := by
  have hb : sr.toNat < 256 := sr.isLt
  rw [scaled w hs]
  unfold ditherOf at hy ⊢
  rw [dither_num, lit_256, ← EReal.coe_mul] at hy ⊢
  rw [lit_frac] at hy
  generalize Ideal.div w s = z at hy ⊢
  unfold kernelWord
  rw [lit_hi, lit_lo]
  have hint : ∀ n : ℤ, -2130706432 ≤ n → n ≤ 2130706432 →
      Ideal.fptosi 32 (((n : ℝ) : ℝ) : EReal) = BitVec.ofInt 32 n := fun n h1 h2 => fptosi_int n (by omega) (by omega)
  have hlo : Ideal.liftRound Ideal.roundHalfEven ((-(127 * 16777216) : ℝ) : EReal) = (((-2130706432 : ℤ) : ℝ) : EReal) := by
    rw [Ideal.liftRound_coe, show (-(127 * 16777216) : ℝ) = ((-2130706432 : ℤ) : ℝ) by norm_num, roundHalfEven_int]
  have hhi : Ideal.liftRound Ideal.roundHalfEven ((127 * 16777216 : ℝ) : EReal) = (((2130706432 : ℤ) : ℝ) : EReal) := by
    rw [Ideal.liftRound_coe, show (127 * 16777216 : ℝ) = ((2130706432 : ℤ) : ℝ) by norm_num, roundHalfEven_int]
  have hle : ((-(127 * 16777216) : ℝ) : EReal) ≤ ((127 * 16777216 : ℝ) : EReal) :=
    EReal.coe_le_coe_iff.mpr (by norm_num)
  induction z with
  | bot =>
    rw [EReal.bot_mul_coe_of_pos (by norm_num), max_eq_left bot_le, min_eq_right hle, hlo, hint _ (by norm_num) (by norm_num),
      shift_code (-2130706432) (-127) sr (by omega) (by omega) (by omega) (by omega), EReal.bot_add]
    unfold wcodeOf
    rw [Ideal.liftRound_bot, lit_neg127, lit_127, max_eq_right bot_le, min_eq_left (EReal.coe_le_coe_iff.mpr (by norm_num)),
      show (-127 : ℝ) = ((-127 : ℤ) : ℝ) by norm_num, fptosi_int _ (by norm_num) (by norm_num)]
  | top =>
    rw [EReal.top_mul_coe_of_pos (by norm_num), max_eq_right le_top, min_eq_left le_top, hhi, hint _ (by norm_num) (by norm_num),
      shift_code 2130706432 127 sr (by omega) (by omega) (by omega) (by omega), EReal.top_add_coe]
    unfold wcodeOf
    rw [Ideal.liftRound_top, lit_neg127, lit_127, max_eq_left le_top, min_eq_right le_top,
      show (127 : ℝ) = ((127 : ℤ) : ℝ) by norm_num, fptosi_int _ (by norm_num) (by norm_num)]
  | coe z =>
    rw [← EReal.coe_add, wcode_real]
    rw [← EReal.coe_add, Ideal.liftRound_coe, ← EReal.coe_sub, EReal.coe_le_coe_iff] at hy
    rw [← EReal.coe_mul, ← coe_max, ← coe_min, Ideal.liftRound_coe]
    set b : ℕ := sr.toNat with hbdef
    set y : ℝ := z + (b : ℝ) * (1 / 256) with hydef
    have hbr : (b : ℝ) < 256 := by exact_mod_cast hb
    have hb0 : (0 : ℝ) ≤ b := Nat.cast_nonneg b
    have hfl : (⌊y⌋ : ℝ) ≤ y := Int.floor_le y
    set t : ℝ := min (127 * 16777216) (max (-(127 * 16777216)) (z * 16777216)) with htdef
    have ht1 : ((-2130706432 : ℤ) : ℝ) ≤ t := by
      rw [htdef]; refine le_min (by norm_num) (le_trans (by norm_num) (le_max_left _ _))
    have ht2 : t ≤ ((2130706432 : ℤ) : ℝ) := by
      rw [htdef]; exact le_trans (min_le_left _ _) (by norm_num)
    have hq1 := roundHalfEven_lower ht1
    have hq2 := roundHalfEven_upper ht2
    rw [hint _ hq1 hq2]
    by_cases hzlo : z < -127
    · have hk : ⌊y⌋ ≤ -127 := by
        have : ⌊y⌋ < -126 := by rw [Int.floor_lt]; push_cast; linarith
        omega
      have hq : Ideal.roundHalfEven t = -2130706432 := by
        have : t = ((-2130706432 : ℤ) : ℝ) := by
          rw [htdef, max_eq_left (by linarith), min_eq_right (by norm_num)]; norm_num
        rw [this, roundHalfEven_int]
      have hm : min (max ⌊y⌋ (-127)) 127 = -127 := by omega
      rw [hq, hm]
      exact shift_code _ _ sr (by omega) (by omega) (by omega) (by omega)
    · by_cases hzhi : 127 < z
      · have hk : 127 ≤ ⌊y⌋ := by rw [Int.le_floor]; push_cast; linarith
        have hq : Ideal.roundHalfEven t = 2130706432 := by
          have : t = ((2130706432 : ℤ) : ℝ) := by
            rw [htdef, max_eq_right (by linarith), min_eq_left (by linarith)]; norm_num
          rw [this, roundHalfEven_int]
        have hm : min (max ⌊y⌋ (-127)) 127 = 127 := by omega
        rw [hq, hm]
        exact shift_code _ _ sr (by omega) (by omega) (by omega) (by omega)
      · push Not at hzlo hzhi
        have hk1 : -127 ≤ ⌊y⌋ := by rw [Int.le_floor]; push_cast; linarith
        have hk2 : ⌊y⌋ ≤ 127 := by
          have : ⌊y⌋ < 128 := by rw [Int.floor_lt]; push_cast; linarith
          omega
        have ht : t = z * 16777216 := by
          rw [htdef, max_eq_right (by linarith), min_eq_right (by linarith)]
        have hm : min (max ⌊y⌋ (-127)) 127 = ⌊y⌋ := by omega
        have hl : ⌊y⌋ * 16777216 - b * 65536 ≤ Ideal.roundHalfEven t :=
          roundHalfEven_lower (by rw [ht]; push_cast; linarith)
        have hu : Ideal.roundHalfEven t ≤ (⌊y⌋ + 1) * 16777216 - 1 - b * 65536 :=
          roundHalfEven_upper (by rw [ht]; push_cast; linarith)
        rw [hm]
        exact shift_code _ _ sr (by omega) (by omega) hk1 hk2

end Cert.Scalars

end
-- ==== Proof.Spec.lean ====
/- One step of the optimizer on one output row, over the extended reals, as the reference's mathematics writes it. -/
module

public import proofs.«01_k».proof.Proof.Scalars
public import Idealize.ShloMosaic.Lib.Pointwise

@[expose] public section

noncomputable section

namespace Cert.Spec

open Idealize.ShloMosaic Cert.Scalars

/-- A signed eight-bit code as a number. -/
def num (b : BitVec 8) : EReal := ((b.toInt : ℝ) : EReal)

/-- The largest magnitude of a finite family. -/
def top {n : ℕ} (f : Fin n → EReal) : EReal :=
  Finset.univ.fold max (Ideal.ofBits .f32 0xFF800000#32) fun k => max (f k) (-(f k))

/-- The group of a projector row, and its place in the group. -/
def grp (k : Fin 384) : Fin 3 := ⟨k.val / 128, by omega⟩
def pos (k : Fin 384) : Fin 128 := ⟨k.val % 128, by omega⟩

/-- The projector row at place `l` of group `g`. -/
def at_ (g : Fin 3) (l : Fin 128) : Fin 384 := ⟨128 * g.val + l.val, by omega⟩

theorem at_grp_pos (k : Fin 384) : at_ (grp k) (pos k) = k := Fin.ext (by show 128 * (k.val / 128) + k.val % 128 = k.val; omega)

/-- The low and the high nibble of a packed code: an even and an odd column of the projector. -/
def nibLo (b : BitVec 8) : EReal := (((b.toNat % 16 : ℕ) : ℝ) : EReal)
def nibHi (b : BitVec 8) : EReal := (((b.toNat / 16 : ℕ) : ℝ) : EReal)

/-- Row `k` of the projector at column `d`, from its packed codes, scales and zero points. -/
def proj (q : Fin 384 → Fin 1024 → BitVec 8) (s z : Fin 384 → Fin 8 → EReal) (k : Fin 384) (d : Fin 2048) : EReal :=
  ((if d.val % 2 = 0 then nibLo (q k ⟨d.val / 2, by omega⟩) else nibHi (q k ⟨d.val / 2, by omega⟩))
    - z k ⟨d.val / 256, by omega⟩) * s k ⟨d.val / 256, by omega⟩

/-- What one output row holds before the step. -/
structure Row where
  dy : Fin 256 → EReal
  mc : Fin 384 → BitVec 8
  ms : Fin 3 → EReal
  vc : Fin 384 → BitVec 8
  vs : Fin 3 → EReal
  wc : Fin 2048 → BitVec 8
  ws : EReal
  sr : Fin 2048 → BitVec 8

section
variable (R : Row) (X : Fin 256 → Fin 2048 → EReal) (P : Fin 384 → Fin 2048 → EReal)

/-- The row's gradient. -/
def Row.grad (d : Fin 2048) : EReal := ∑ s : Fin 256, X s d * R.dy s

/-- The gradient projected on row `k` of the projector. -/
def Row.r (k : Fin 384) : EReal := ∑ d : Fin 2048, P k d * R.grad X d

/-- The new first moment. -/
def Row.m (k : Fin 384) : EReal :=
  Ideal.ofBits .f32 0x3F666666#32 * (num (R.mc k) * R.ms (grp k)) + Ideal.ofBits .f32 0x3DCCCCCD#32 * R.r X P k

/-- The new second moment. -/
def Row.v (k : Fin 384) : EReal :=
  Ideal.ofBits .f32 0x3F7FBE77#32 * (num (R.vc k) * R.vs (grp k))
    + Ideal.ofBits .f32 0x3A83126F#32 * R.r X P k * R.r X P k

/-- The direction of the update. -/
def Row.n (k : Fin 384) : EReal := dirOf (R.m X P k) (R.v X P k)

/-- The scales and codes of the new moments. -/
def Row.mScale (g : Fin 3) : EReal := scaleOf (top fun l => R.m X P (at_ g l))
def Row.vScale (g : Fin 3) : EReal := scaleOf (top fun l => R.v X P (at_ g l))
def Row.mCode (k : Fin 384) : BitVec 8 := codeOf (R.m X P k) (R.mScale X P (grp k))
def Row.vCode (k : Fin 384) : BitVec 8 := codeOf (R.v X P k) (R.vScale X P (grp k))

/-- The update of the weight. -/
def Row.delta (d : Fin 2048) : EReal := Ideal.ofBits .f32 0x3A83126F#32 * ∑ k : Fin 384, R.n X P k * P k d

/-- The new weight, its row's scale, the dithered quotient and its code. -/
def Row.w (d : Fin 2048) : EReal := num (R.wc d) * R.ws - R.delta X P d
def Row.wScale : EReal := scaleOf (top fun d => R.w X P d)
def Row.dither (d : Fin 2048) : EReal :=
  ditherOf (R.w X P d) (R.wScale X P) (((((R.sr d).setWidth 32).toInt : ℝ)) : EReal)
def Row.wCode (d : Fin 2048) : BitVec 8 := wcodeOf (R.dither X P d)

/-- The row on which the kernel's square root is exact throughout. -/
def Row.good : Prop := ∀ k, Good (R.v X P k)

end

/-- The whole step's inputs, by index. -/
structure Args where
  x : Fin 256 → Fin 2048 → EReal
  dy : Fin 256 → Fin 5632 → EReal
  q : Fin 384 → Fin 1024 → BitVec 8
  s : Fin 384 → Fin 8 → EReal
  z : Fin 384 → Fin 8 → EReal
  mc : Fin 5632 → Fin 384 → BitVec 8
  ms : Fin 5632 → Fin 3 → EReal
  vc : Fin 5632 → Fin 384 → BitVec 8
  vs : Fin 5632 → Fin 3 → EReal
  wc : Fin 5632 → Fin 2048 → BitVec 8
  ws : Fin 5632 → EReal
  sr : Fin 5632 → Fin 2048 → BitVec 8

/-- Output row `o` of the inputs. -/
def Args.row (A : Args) (o : Fin 5632) : Row where
  dy s := A.dy s o
  mc := A.mc o
  ms := A.ms o
  vc := A.vc o
  vs := A.vs o
  wc := A.wc o
  ws := A.ws o
  sr := A.sr o

/-- The projector of the inputs. -/
def Args.P (A : Args) : Fin 384 → Fin 2048 → EReal := proj A.q A.s A.z

end Cert.Spec

end
-- ==== Proof.RefProj.lean ====
/- The reference's gradient, projector and projected gradient, at an index. -/
module

public import proofs.«01_k».proof.Proof.Spec
public import proofs.«01_k».proof.Proof.Gen.ReferenceIdeal.Read

@[expose] public section

set_option maxRecDepth 16384

noncomputable section

namespace Cert.ReferenceIdeal.Value

open Idealize.ShloMosaic Idealize.ShloMosaic.Pointwise
open Cert.ReferenceIdeal Cert.ReferenceIdeal.Gen Cert.ReferenceIdeal.Read Cert.Scalars Cert.Spec

/-- The reference's arguments, by index. -/
def argsOf (x0 : Vec Ideal S1x256x2048 .bf16) (x1 : Vec Ideal S1x256x5632 .bf16) (x2 : Vec Ideal S384x1024 .i8)
    (x3 x4 : Vec Ideal S384x8 .f32) (x5 : Vec Ideal S5632x384 .i8) (x6 : Vec Ideal S5632x3 .f32)
    (x7 : Vec Ideal S5632x384 .i8) (x8 : Vec Ideal S5632x3 .f32) (x9 : Vec Ideal S5632x2048 .i8)
    (x10 : Vec Ideal S5632 .f32) (x11 : Vec Ideal S5632x2048 .i8) : Args where
  x s d := x0 (ix3 0 s d)
  dy s o := x1 (ix3 0 s o)
  q k j := x2 (ix2 k j)
  s k g := x3 (ix2 k g)
  z k g := x4 (ix2 k g)
  mc o k := x5 (ix2 o k)
  ms o g := x6 (ix2 o g)
  vc o k := x7 (ix2 o k)
  vs o g := x8 (ix2 o g)
  wc o d := x9 (ix2 o d)
  ws o := x10 (ix1 o)
  sr o d := x11 (ix2 o d)

/-- A sum over the columns is the sum over the even ones plus the sum over the odd ones. -/
theorem sum_parity (f : Fin 2048 → EReal) :
    ∑ d : Fin 2048, f d
      = (∑ j : Fin 1024, f ⟨2 * j.val, by omega⟩) + ∑ j : Fin 1024, f ⟨2 * j.val + 1, by omega⟩ := by
  rw [← Finset.sum_add_distrib]
  rw [← Fintype.sum_equiv (finProdFinEquiv : Fin 1024 × Fin 2 ≃ Fin (1024 * 2)) (fun y => f (finProdFinEquiv y)) f fun _ => rfl]
  rw [Fintype.sum_prod_type]
  refine Finset.sum_congr rfl fun j _ => ?_
  rw [Fin.sum_univ_two]
  exact congrArg₂ (· + ·) (congrArg f (Fin.ext (Nat.zero_add (2 * j.val))))
    (congrArg f (Fin.ext (Nat.add_comm 1 (2 * j.val))))

theorem nibLo_host : ∀ b : BitVec 8, (IntOp.andi (b.setWidth 32) 15#32).toInt = ((b.toNat % 16 : ℕ) : ℤ) := by decide +kernel
theorem nibHi_host : ∀ b : BitVec 8,
    (IntOp.shrsi .host (b.setWidth 32) 4#32).toInt = ((b.toNat / 16 : ℕ) : ℤ) := by decide +kernel

section
variable (x0 : Vec Ideal S1x256x2048 .bf16) (x1 : Vec Ideal S1x256x5632 .bf16) (x2 : Vec Ideal S384x1024 .i8)
  (x3 x4 : Vec Ideal S384x8 .f32)

theorem grad_at (o : Fin 5632) (d : Fin 2048) :
    val_main_v20 (F := Ideal) x0 x1 (ix2 o d) = ∑ s : Fin 256, x0 (ix3 0 s d) * x1 (ix3 0 s o) := by
  pointwise [val_main_v20, val_main_v19]
  rw [Fin.sum_univ_one]
  exact Finset.sum_congr rfl fun s _ => mul_comm _ _

theorem even_at (o : Fin 5632) (j : Fin 1024) :
    val_main_v21 (F := Ideal) x0 x1 (ix2 o j) = val_main_v20 (F := Ideal) x0 x1 (ix2 o (⟨2 * j.val, by omega⟩ : Fin 2048)) := by
  pointwise [val_main_v21]

theorem odd_at (o : Fin 5632) (j : Fin 1024) :
    val_main_v23 (F := Ideal) x0 x1 (ix2 o j) = val_main_v20 (F := Ideal) x0 x1 (ix2 o (⟨2 * j.val + 1, by omega⟩ : Fin 2048)) := by
  pointwise [val_main_v23]
  exact congrArg (fun y => val_main_v20 (F := Ideal) x0 x1 (ix2 o y)) (Fin.ext (Nat.add_comm _ _))

theorem lo_at (k : Fin 384) (j : Fin 1024) :
    val_main_v14 (F := Ideal) x2 x3 x4 (ix2 k j)
      = (nibLo (x2 (ix2 k j)) - x4 (ix2 k (⟨j.val / 128, by omega⟩ : Fin 8))) * x3 (ix2 k (⟨j.val / 128, by omega⟩ : Fin 8)) := by
  have e : nibLo (x2 (ix2 k j)) = FloatOps.sitofp (F := Ideal) .f32 (IntOp.andi ((x2 (ix2 k j)).setWidth 32) 15#32) := by
    show _ = (((IntOp.andi ((x2 (ix2 k j)).setWidth 32) 15#32).toInt : ℝ) : EReal)
    rw [nibLo_host, Int.cast_natCast]
    rfl
  rw [e]
  pointwise [val_main_v14, val_main_v13, val_main_v12, val_main_v11, val_main_v10, val_main_v9, val_main_v8, val_main_v7,
    val_main_v6, val_main_v5, val_main_v2, val_main_v1, val_main_v0, val_main_c]

theorem hi_at (k : Fin 384) (j : Fin 1024) :
    val_main_v18 (F := Ideal) x2 x3 x4 (ix2 k j)
      = (nibHi (x2 (ix2 k j)) - x4 (ix2 k (⟨j.val / 128, by omega⟩ : Fin 8))) * x3 (ix2 k (⟨j.val / 128, by omega⟩ : Fin 8)) := by
  have e : nibHi (x2 (ix2 k j)) = FloatOps.sitofp (F := Ideal) .f32 (IntOp.shrsi .host ((x2 (ix2 k j)).setWidth 32) 4#32) := by
    show _ = (((IntOp.shrsi .host ((x2 (ix2 k j)).setWidth 32) 4#32).toInt : ℝ) : EReal)
    rw [nibHi_host, Int.cast_natCast]
    rfl
  rw [e]
  pointwise [val_main_v18, val_main_v17, val_main_v16, val_main_v15, val_main_v10, val_main_v9, val_main_v8, val_main_v7,
    val_main_v6, val_main_v5, val_main_v4, val_main_v3, val_main_v0, val_main_c_0]

/-- The projector at an even and at an odd column. -/
theorem lo_proj (k : Fin 384) (d : Fin 2048) (h : d.val % 2 = 0) :
    val_main_v14 (F := Ideal) x2 x3 x4 (ix2 k (⟨d.val / 2, by omega⟩ : Fin 1024))
      = proj (fun k j => x2 (ix2 k j)) (fun k g => x3 (ix2 k g)) (fun k g => x4 (ix2 k g)) k d := by
  have hg : (⟨d.val / 2 / 128, by omega⟩ : Fin 8) = ⟨d.val / 256, by omega⟩ := Fin.ext (by show d.val / 2 / 128 = d.val / 256; omega)
  unfold proj
  rw [lo_at, if_pos h, hg]

theorem hi_proj (k : Fin 384) (d : Fin 2048) (h : ¬ d.val % 2 = 0) :
    val_main_v18 (F := Ideal) x2 x3 x4 (ix2 k (⟨d.val / 2, by omega⟩ : Fin 1024))
      = proj (fun k j => x2 (ix2 k j)) (fun k g => x3 (ix2 k g)) (fun k g => x4 (ix2 k g)) k d := by
  have hg : (⟨d.val / 2 / 128, by omega⟩ : Fin 8) = ⟨d.val / 256, by omega⟩ := Fin.ext (by show d.val / 2 / 128 = d.val / 256; omega)
  unfold proj
  rw [hi_at, if_neg h, hg]

theorem r_sums (o : Fin 5632) (k : Fin 384) :
    val_main_v25 (F := Ideal) x0 x1 x2 x3 x4 (ix2 o k)
      = (∑ j : Fin 1024, val_main_v21 (F := Ideal) x0 x1 (ix2 o j) * val_main_v14 (F := Ideal) x2 x3 x4 (ix2 k j))
        + ∑ j : Fin 1024, val_main_v23 (F := Ideal) x0 x1 (ix2 o j) * val_main_v18 (F := Ideal) x2 x3 x4 (ix2 k j) := by
  pointwise [val_main_v25, val_main_v24, val_main_v22]

end

section
variable (x0 : Vec Ideal S1x256x2048 .bf16) (x1 : Vec Ideal S1x256x5632 .bf16) (x2 : Vec Ideal S384x1024 .i8)
  (x3 x4 : Vec Ideal S384x8 .f32) (x5 : Vec Ideal S5632x384 .i8) (x6 : Vec Ideal S5632x3 .f32)
  (x7 : Vec Ideal S5632x384 .i8) (x8 : Vec Ideal S5632x3 .f32) (x9 : Vec Ideal S5632x2048 .i8)
  (x10 : Vec Ideal S5632 .f32) (x11 : Vec Ideal S5632x2048 .i8)

/-- The projected gradient. -/
theorem r_at (o : Fin 5632) (k : Fin 384) :
    val_main_v25 (F := Ideal) x0 x1 x2 x3 x4 (ix2 o k)
      = ((argsOf x0 x1 x2 x3 x4 x5 x6 x7 x8 x9 x10 x11).row o).r (argsOf x0 x1 x2 x3 x4 x5 x6 x7 x8 x9 x10 x11).x
          (argsOf x0 x1 x2 x3 x4 x5 x6 x7 x8 x9 x10 x11).P k := by
  unfold Row.r
  rw [r_sums, sum_parity]
  congr 1
  · refine Finset.sum_congr rfl fun j _ => ?_
    rw [even_at, grad_at, mul_comm]
    refine congrArg (· * _) (Eq.trans ?_ (lo_proj x2 x3 x4 k ⟨2 * j.val, by omega⟩ (by show 2 * j.val % 2 = 0; omega)))
    exact congrArg (fun y => val_main_v14 (F := Ideal) x2 x3 x4 (ix2 k y)) (Fin.ext (by show j.val = 2 * j.val / 2; omega))
  · refine Finset.sum_congr rfl fun j _ => ?_
    rw [odd_at, grad_at, mul_comm]
    refine congrArg (· * _) (Eq.trans ?_ (hi_proj x2 x3 x4 k ⟨2 * j.val + 1, by omega⟩ (by show ¬ (2 * j.val + 1) % 2 = 0; omega)))
    exact congrArg (fun y => val_main_v18 (F := Ideal) x2 x3 x4 (ix2 k y)) (Fin.ext (by show j.val = (2 * j.val + 1) / 2; omega))

end

end Cert.ReferenceIdeal.Value

end
-- ==== Proof.RefRow.lean ====
/- The reference's results, each at an index: the row functions of its arguments. -/
module

public import proofs.«01_k».proof.Proof.RefProj
public import Idealize.ShloMosaic.Lib.StableHlo.ReadAt

@[expose] public section

set_option maxRecDepth 16384

noncomputable section

namespace Cert.ReferenceIdeal.Value

open Idealize.ShloMosaic Idealize.ShloMosaic.Pointwise
open Cert.ReferenceIdeal Cert.ReferenceIdeal.Gen Cert.ReferenceIdeal.Read Cert.Scalars Cert.Spec

/-- A signed code widened to thirty-two bits is the same number. -/
theorem num_ext (b : BitVec 8) : FloatOps.sitofp (F := Ideal) .f32 (b.signExtend 32) = num b := by
  show (((b.signExtend 32).toInt : ℝ) : EReal) = _
  rw [BitVec.toInt_signExtend_of_le (by norm_num)]
  rfl

variable (x0 : Vec Ideal S1x256x2048 .bf16) (x1 : Vec Ideal S1x256x5632 .bf16) (x2 : Vec Ideal S384x1024 .i8)
  (x3 x4 : Vec Ideal S384x8 .f32) (x5 : Vec Ideal S5632x384 .i8) (x6 : Vec Ideal S5632x3 .f32)
  (x7 : Vec Ideal S5632x384 .i8) (x8 : Vec Ideal S5632x3 .f32) (x9 : Vec Ideal S5632x2048 .i8)
  (x10 : Vec Ideal S5632 .f32) (x11 : Vec Ideal S5632x2048 .i8)

/-- The new first moment. -/
theorem m_at (o : Fin 5632) (k : Fin 384) :
    val_main_v40 (F := Ideal) x0 x1 x2 x3 x4 x5 x6 (ix2 o k) = ((argsOf x0 x1 x2 x3 x4 x5 x6 x7 x8 x9 x10 x11).row o).m (argsOf x0 x1 x2 x3 x4 x5 x6 x7 x8 x9 x10 x11).x
      (argsOf x0 x1 x2 x3 x4 x5 x6 x7 x8 x9 x10 x11).P k := by
  unfold Row.m
  rw [← r_at]
  unfold val_main_v40 val_main_v39 val_main_v38 val_main_v37 val_main_v36 val_main_v30 val_main_v29 val_main_v28
    val_main_v27 val_main_v26 val_main_cst val_main_cst_1
  generalize val_main_v25 (F := Ideal) x0 x1 x2 x3 x4 = M
  change Vec Ideal S5632x384 .f32 at M
  clean_types
  pointwise []
  rw [num_ext]
  rfl

/-- The new second moment. -/
theorem v_at (o : Fin 5632) (k : Fin 384) :
    val_main_v46 (F := Ideal) x0 x1 x2 x3 x4 x7 x8 (ix2 o k) = ((argsOf x0 x1 x2 x3 x4 x5 x6 x7 x8 x9 x10 x11).row o).v (argsOf x0 x1 x2 x3 x4 x5 x6 x7 x8 x9 x10 x11).x
      (argsOf x0 x1 x2 x3 x4 x5 x6 x7 x8 x9 x10 x11).P k := by
  unfold Row.v
  rw [← r_at]
  unfold val_main_v46 val_main_v45 val_main_v44 val_main_v43 val_main_v42 val_main_v41 val_main_v35 val_main_v34
    val_main_v33 val_main_v32 val_main_v31 val_main_cst_2 val_main_cst_3
  generalize val_main_v25 (F := Ideal) x0 x1 x2 x3 x4 = M
  change Vec Ideal S5632x384 .f32 at M
  clean_types
  pointwise []
  rw [num_ext]
  rfl

/-- The direction. -/
theorem n_at (o : Fin 5632) (k : Fin 384) :
    val_main_v54 (F := Ideal) x0 x1 x2 x3 x4 x5 x6 x7 x8 (ix2 o k) = ((argsOf x0 x1 x2 x3 x4 x5 x6 x7 x8 x9 x10 x11).row o).n (argsOf x0 x1 x2 x3 x4 x5 x6 x7 x8 x9 x10 x11).x
      (argsOf x0 x1 x2 x3 x4 x5 x6 x7 x8 x9 x10 x11).P k := by
  unfold Row.n
  rw [← m_at, ← v_at]
  unfold val_main_v54 val_main_v53 val_main_v52 val_main_v51 val_main_v50 val_main_v49 val_main_v48 val_main_v47
    val_main_cst_4 val_main_cst_5 val_main_cst_6
  generalize val_main_v40 (F := Ideal) x0 x1 x2 x3 x4 x5 x6 = M
  generalize val_main_v46 (F := Ideal) x0 x1 x2 x3 x4 x7 x8 = V
  change Vec Ideal S5632x384 .f32 at M
  change Vec Ideal S5632x384 .f32 at V
  clean_types
  pointwise []
  rfl

/-- The largest magnitude of a group of the first moment. -/
theorem mTop_at (o : Fin 5632) (g : Fin 3) :
    val_main_v57 (F := Ideal) x0 x1 x2 x3 x4 x5 x6 (ix2 o g)
      = top fun l => val_main_v40 (F := Ideal) x0 x1 x2 x3 x4 x5 x6 (ix2 o (at_ g l)) := by
  unfold top val_main_v57 val_main_v56 val_main_v55 val_main_cst_7
  generalize val_main_v40 (F := Ideal) x0 x1 x2 x3 x4 x5 x6 = M
  change Vec Ideal S5632x384 .f32 at M
  clean_types
  pointwise []
  have ha : ∀ x : Fin 128, (⟨g.val * 128 + x.val, by omega⟩ : Fin 384) = at_ g x := fun x =>
    Fin.ext (by show g.val * 128 + x.val = 128 * g.val + x.val; omega)
  simp only [ha]
  rfl

/-- The first moment's scale. -/
theorem mScale_at (o : Fin 5632) (g : Fin 3) :
    val_main_v63 (F := Ideal) x0 x1 x2 x3 x4 x5 x6 (ix2 o g) = ((argsOf x0 x1 x2 x3 x4 x5 x6 x7 x8 x9 x10 x11).row o).mScale (argsOf x0 x1 x2 x3 x4 x5 x6 x7 x8 x9 x10 x11).x
      (argsOf x0 x1 x2 x3 x4 x5 x6 x7 x8 x9 x10 x11).P g := by
  unfold Row.mScale
  simp only [← m_at]
  rw [← mTop_at]
  unfold scaleOf val_main_v63 val_main_v62 val_main_v61 val_main_v60 val_main_v59 val_main_v58 val_main_cst_8 val_main_cst_9 val_main_cst_10
  generalize val_main_v57 (F := Ideal) x0 x1 x2 x3 x4 x5 x6 = T
  change Vec Ideal S5632x3 .f32 at T
  clean_types
  pointwise []

/-- The first moment's scales, as the result holds them. -/
theorem mScales_at (o : Fin 5632) (g : Fin 3) :
    val_main_v136 (F := Ideal) x0 x1 x2 x3 x4 x5 x6 (ix2 g o) = ((argsOf x0 x1 x2 x3 x4 x5 x6 x7 x8 x9 x10 x11).row o).mScale (argsOf x0 x1 x2 x3 x4 x5 x6 x7 x8 x9 x10 x11).x
      (argsOf x0 x1 x2 x3 x4 x5 x6 x7 x8 x9 x10 x11).P g := by
  rw [← mScale_at]
  unfold val_main_v136
  generalize val_main_v63 (F := Ideal) x0 x1 x2 x3 x4 x5 x6 = S
  change Vec Ideal S5632x3 .f32 at S
  clean_types
  pointwise []

/-- The first moment's codes. -/
theorem mCode_at (o : Fin 5632) (k : Fin 384) :
    val_main_v84 (F := Ideal) x0 x1 x2 x3 x4 x5 x6 (ix2 o k) = ((argsOf x0 x1 x2 x3 x4 x5 x6 x7 x8 x9 x10 x11).row o).mCode (argsOf x0 x1 x2 x3 x4 x5 x6 x7 x8 x9 x10 x11).x
      (argsOf x0 x1 x2 x3 x4 x5 x6 x7 x8 x9 x10 x11).P k := by
  unfold Row.mCode codeOf
  rw [← m_at, ← mScale_at]
  unfold val_main_v84 val_main_v83 val_main_v82 val_main_v81 val_main_v80 val_main_v79 val_main_v78 val_main_v77
    val_main_v76 val_main_v75 val_main_v74 val_main_v73 val_main_cst_15 val_main_cst_16
  generalize val_main_v40 (F := Ideal) x0 x1 x2 x3 x4 x5 x6 = M
  generalize val_main_v63 (F := Ideal) x0 x1 x2 x3 x4 x5 x6 = S
  change Vec Ideal S5632x384 .f32 at M
  change Vec Ideal S5632x3 .f32 at S
  clean_types
  pointwise []
  rfl

/-- The largest magnitude of a group of the second moment. -/
theorem vTop_at (o : Fin 5632) (g : Fin 3) :
    val_main_v66 (F := Ideal) x0 x1 x2 x3 x4 x7 x8 (ix2 o g)
      = top fun l => val_main_v46 (F := Ideal) x0 x1 x2 x3 x4 x7 x8 (ix2 o (at_ g l)) := by
  unfold top val_main_v66 val_main_v65 val_main_v64 val_main_cst_11
  generalize val_main_v46 (F := Ideal) x0 x1 x2 x3 x4 x7 x8 = M
  change Vec Ideal S5632x384 .f32 at M
  clean_types
  pointwise []
  have ha : ∀ x : Fin 128, (⟨g.val * 128 + x.val, by omega⟩ : Fin 384) = at_ g x := fun x =>
    Fin.ext (by show g.val * 128 + x.val = 128 * g.val + x.val; omega)
  simp only [ha]
  rfl

/-- The second moment's scale. -/
theorem vScale_at (o : Fin 5632) (g : Fin 3) :
    val_main_v72 (F := Ideal) x0 x1 x2 x3 x4 x7 x8 (ix2 o g) = ((argsOf x0 x1 x2 x3 x4 x5 x6 x7 x8 x9 x10 x11).row o).vScale (argsOf x0 x1 x2 x3 x4 x5 x6 x7 x8 x9 x10 x11).x
      (argsOf x0 x1 x2 x3 x4 x5 x6 x7 x8 x9 x10 x11).P g := by
  unfold Row.vScale
  simp only [← v_at]
  rw [← vTop_at]
  unfold scaleOf val_main_v72 val_main_v71 val_main_v70 val_main_v69 val_main_v68 val_main_v67 val_main_cst_12 val_main_cst_13 val_main_cst_14
  generalize val_main_v66 (F := Ideal) x0 x1 x2 x3 x4 x7 x8 = T
  change Vec Ideal S5632x3 .f32 at T
  clean_types
  pointwise []

/-- The second moment's scales, as the result holds them. -/
theorem vScales_at (o : Fin 5632) (g : Fin 3) :
    val_main_v137 (F := Ideal) x0 x1 x2 x3 x4 x7 x8 (ix2 g o) = ((argsOf x0 x1 x2 x3 x4 x5 x6 x7 x8 x9 x10 x11).row o).vScale (argsOf x0 x1 x2 x3 x4 x5 x6 x7 x8 x9 x10 x11).x
      (argsOf x0 x1 x2 x3 x4 x5 x6 x7 x8 x9 x10 x11).P g := by
  rw [← vScale_at]
  unfold val_main_v137
  generalize val_main_v72 (F := Ideal) x0 x1 x2 x3 x4 x7 x8 = S
  change Vec Ideal S5632x3 .f32 at S
  clean_types
  pointwise []

/-- The second moment's codes. -/
theorem vCode_at (o : Fin 5632) (k : Fin 384) :
    val_main_v96 (F := Ideal) x0 x1 x2 x3 x4 x7 x8 (ix2 o k) = ((argsOf x0 x1 x2 x3 x4 x5 x6 x7 x8 x9 x10 x11).row o).vCode (argsOf x0 x1 x2 x3 x4 x5 x6 x7 x8 x9 x10 x11).x
      (argsOf x0 x1 x2 x3 x4 x5 x6 x7 x8 x9 x10 x11).P k := by
  unfold Row.vCode codeOf
  rw [← v_at, ← vScale_at]
  unfold val_main_v96 val_main_v95 val_main_v94 val_main_v93 val_main_v92 val_main_v91 val_main_v90 val_main_v89
    val_main_v88 val_main_v87 val_main_v86 val_main_v85 val_main_cst_17 val_main_cst_18
  generalize val_main_v46 (F := Ideal) x0 x1 x2 x3 x4 x7 x8 = M
  generalize val_main_v72 (F := Ideal) x0 x1 x2 x3 x4 x7 x8 = S
  change Vec Ideal S5632x384 .f32 at M
  change Vec Ideal S5632x3 .f32 at S
  clean_types
  pointwise []
  rfl

/-! ## The weight -/

/-- The update of the weight. -/
theorem delta_at (o : Fin 5632) (d : Fin 2048) :
    val_main_v105 (F := Ideal) x0 x1 x2 x3 x4 x5 x6 x7 x8 (ix2 o d) = ((argsOf x0 x1 x2 x3 x4 x5 x6 x7 x8 x9 x10 x11).row o).delta (argsOf x0 x1 x2 x3 x4 x5 x6 x7 x8 x9 x10 x11).x
      (argsOf x0 x1 x2 x3 x4 x5 x6 x7 x8 x9 x10 x11).P d := by
  unfold Row.delta
  simp only [← n_at]
  have hlo := lo_proj x2 x3 x4
  have hhi := hi_proj x2 x3 x4
  unfold val_main_v105 val_main_v104 val_main_v103 val_main_v102 val_main_v101 val_main_v100 val_main_v99 val_main_v98
    val_main_v97 val_main_cst_19
  generalize val_main_v54 (F := Ideal) x0 x1 x2 x3 x4 x5 x6 x7 x8 = N
  generalize val_main_v14 (F := Ideal) x2 x3 x4 = A at hlo ⊢
  generalize val_main_v18 (F := Ideal) x2 x3 x4 = B at hhi ⊢
  change Vec Ideal S5632x384 .f32 at N
  change Vec Ideal S384x1024 .bf16 at A
  change Vec Ideal S384x1024 .bf16 at B
  clean_types
  pointwise []
  refine congrArg (_ * ·) ?_
  by_cases h : d.val % 2 = 0
  · rw [dif_pos (by omega)]
    exact Finset.sum_congr rfl fun k _ => congrArg (_ * ·) (hlo k d h)
  · rw [dif_neg (by omega)]
    exact Finset.sum_congr rfl fun k _ => congrArg (_ * ·) (hhi k d h)

/-- The new weight. -/
theorem w_at (o : Fin 5632) (d : Fin 2048) :
    val_main_v111 (F := Ideal) x0 x1 x2 x3 x4 x5 x6 x7 x8 x9 x10 (ix2 o d) = ((argsOf x0 x1 x2 x3 x4 x5 x6 x7 x8 x9 x10 x11).row o).w (argsOf x0 x1 x2 x3 x4 x5 x6 x7 x8 x9 x10 x11).x
      (argsOf x0 x1 x2 x3 x4 x5 x6 x7 x8 x9 x10 x11).P d := by
  unfold Row.w
  rw [← delta_at]
  unfold val_main_v111 val_main_v110 val_main_v109 val_main_v108 val_main_v107 val_main_v106
  generalize val_main_v105 (F := Ideal) x0 x1 x2 x3 x4 x5 x6 x7 x8 = D
  change Vec Ideal S5632x2048 .f32 at D
  clean_types
  pointwise []
  rw [num_ext]
  rfl

/-- The largest magnitude of a row of the new weight. -/
theorem wTop_at (o : Fin 5632) :
    val_main_v113 (F := Ideal) x0 x1 x2 x3 x4 x5 x6 x7 x8 x9 x10 (ix1 o)
      = top fun d => val_main_v111 (F := Ideal) x0 x1 x2 x3 x4 x5 x6 x7 x8 x9 x10 (ix2 o d) := by
  unfold top val_main_v113 val_main_v112 val_main_cst_20
  generalize val_main_v111 (F := Ideal) x0 x1 x2 x3 x4 x5 x6 x7 x8 x9 x10 = W
  change Vec Ideal S5632x2048 .f32 at W
  clean_types
  pointwise []
  rfl

/-- The weight row's scale. -/
theorem wScale_at (o : Fin 5632) :
    val_main_v119 (F := Ideal) x0 x1 x2 x3 x4 x5 x6 x7 x8 x9 x10 (ix1 o) = ((argsOf x0 x1 x2 x3 x4 x5 x6 x7 x8 x9 x10 x11).row o).wScale (argsOf x0 x1 x2 x3 x4 x5 x6 x7 x8 x9 x10 x11).x
      (argsOf x0 x1 x2 x3 x4 x5 x6 x7 x8 x9 x10 x11).P := by
  unfold Row.wScale
  simp only [← w_at]
  rw [← wTop_at]
  unfold scaleOf val_main_v119 val_main_v118 val_main_v117 val_main_v116 val_main_v115 val_main_v114 val_main_cst_21
    val_main_cst_22 val_main_cst_23
  generalize val_main_v113 (F := Ideal) x0 x1 x2 x3 x4 x5 x6 x7 x8 x9 x10 = T
  change Vec Ideal S5632 .f32 at T
  clean_types
  pointwise []

/-- The weight row's scale, as the result holds it. -/
theorem wScales_at (o : Fin 5632) :
    val_main_v135 (F := Ideal) x0 x1 x2 x3 x4 x5 x6 x7 x8 x9 x10 (ix2 0 o) = ((argsOf x0 x1 x2 x3 x4 x5 x6 x7 x8 x9 x10 x11).row o).wScale (argsOf x0 x1 x2 x3 x4 x5 x6 x7 x8 x9 x10 x11).x
      (argsOf x0 x1 x2 x3 x4 x5 x6 x7 x8 x9 x10 x11).P := by
  rw [← wScale_at]
  unfold val_main_v135
  generalize val_main_v119 (F := Ideal) x0 x1 x2 x3 x4 x5 x6 x7 x8 x9 x10 = S
  change Vec Ideal S5632 .f32 at S
  clean_types
  pointwise []

/-- The dithered quotient. -/
theorem dither_at (o : Fin 5632) (d : Fin 2048) :
    val_main_v127 (F := Ideal) x0 x1 x2 x3 x4 x5 x6 x7 x8 x9 x10 x11 (ix2 o d) = ((argsOf x0 x1 x2 x3 x4 x5 x6 x7 x8 x9 x10 x11).row o).dither (argsOf x0 x1 x2 x3 x4 x5 x6 x7 x8 x9 x10 x11).x
      (argsOf x0 x1 x2 x3 x4 x5 x6 x7 x8 x9 x10 x11).P d := by
  unfold Row.dither ditherOf
  rw [← w_at, ← wScale_at]
  unfold val_main_v127 val_main_v126 val_main_v125 val_main_v124 val_main_v123 val_main_v122 val_main_v121
    val_main_v120 val_main_cst_24
  generalize val_main_v111 (F := Ideal) x0 x1 x2 x3 x4 x5 x6 x7 x8 x9 x10 = W
  generalize val_main_v119 (F := Ideal) x0 x1 x2 x3 x4 x5 x6 x7 x8 x9 x10 = S
  change Vec Ideal S5632x2048 .f32 at W
  change Vec Ideal S5632 .f32 at S
  clean_types
  pointwise []
  rfl

/-- The weight's code. -/
theorem wCode_at (o : Fin 5632) (d : Fin 2048) :
    val_main_v134 (F := Ideal) x0 x1 x2 x3 x4 x5 x6 x7 x8 x9 x10 x11 (ix2 o d) = ((argsOf x0 x1 x2 x3 x4 x5 x6 x7 x8 x9 x10 x11).row o).wCode (argsOf x0 x1 x2 x3 x4 x5 x6 x7 x8 x9 x10 x11).x
      (argsOf x0 x1 x2 x3 x4 x5 x6 x7 x8 x9 x10 x11).P d := by
  unfold Row.wCode wcodeOf
  rw [← dither_at]
  unfold val_main_v134 val_main_v133 val_main_v132 val_main_v131 val_main_v130 val_main_v129 val_main_v128
    val_main_cst_25 val_main_cst_26
  generalize val_main_v127 (F := Ideal) x0 x1 x2 x3 x4 x5 x6 x7 x8 x9 x10 x11 = Y
  change Vec Ideal S5632x2048 .f32 at Y
  clean_types
  pointwise []
  rfl

end Cert.ReferenceIdeal.Value

end
-- ==== Proof.Mask.lean ====
/- The mask of the claim, at an index: where the second moment is zero or a normal number below infinity, the rows on
   which it is so throughout, and of these the elements whose dithered quotient is not within `2⁻²⁴` below an integer. -/
module

public import proofs.«01_k».proof.Proof.RefRow
public import proofs.«01_k».proof.Proof.Gen.On_covered
public import Idealize.ShloMosaic.Lib.ReduceAll

@[expose] public section

set_option maxRecDepth 16384

noncomputable section

namespace Cert.ReferenceIdeal.Mask

open Idealize.ShloMosaic Idealize.ShloMosaic.Pointwise Idealize.ShloMosaic.StableHlo
open Cert.ReferenceIdeal.Read Cert.ReferenceIdeal.Value Cert.Scalars Cert.Spec Cert.On_covered Cert.On_covered.Gen

/-- Where a second moment is zero or a normal number below infinity. -/
def okArr (V : FVec Ideal S5632x384 .f32) : IVec S5632x384 1 :=
  ori (cmpf .oeq V (broadcastInDim S5632x384 ![] bcast_S_S5632x384 (constant S_ .f32 0x00000000#32)))
    (andi (cmpf .oge V (broadcastInDim S5632x384 ![] bcast_S_S5632x384 (constant S_ .f32 0x00800000#32)))
      (cmpf .olt V (broadcastInDim S5632x384 ![] bcast_S_S5632x384 (constant S_ .f32 0x7F800000#32))))

/-- The rows on which it is so throughout. -/
def rowArr (V : FVec Ideal S5632x384 .f32) : IVec S5632 1 :=
  Host.reduce IntOp.andi (okArr V) (constantI S_ 1 1#1) reducesTo_S5632x384_S5632_d1 h_S_

/-- Where a dithered quotient is not within `2⁻²⁴` below an integer. -/
def fracArr (Y : FVec Ideal S5632x2048 .f32) : IVec S5632x2048 1 :=
  cmpf .ole (subf Y (Host.floor Y)) (broadcastInDim S5632x2048 ![] bcast_S_S5632x2048 (constant S_ .f32 0x3F7FFFFF#32))

section
variable (x0 : Vec Ideal S1x256x2048 .bf16) (x1 : Vec Ideal S1x256x5632 .bf16) (x2 : Vec Ideal S384x1024 .i8)
  (x3 x4 : Vec Ideal S384x8 .f32) (x5 : Vec Ideal S5632x384 .i8) (x6 : Vec Ideal S5632x3 .f32)
  (x7 : Vec Ideal S5632x384 .i8) (x8 : Vec Ideal S5632x3 .f32) (x9 : Vec Ideal S5632x2048 .i8)
  (x10 : Vec Ideal S5632 .f32) (x11 : Vec Ideal S5632x2048 .i8)

/-- The mask's own moments are the reference's. -/
theorem fn_moments :
    fn (F := Ideal) x0 x1 x2 x3 x4 x5 x6 x7 x8 x9 x10 x11
      = fn_part2 (F := Ideal) x9 x10 x11 (val_main_v14 (F := Ideal) x2 x3 x4) (val_main_v18 (F := Ideal) x2 x3 x4)
          (val_main_v25 (F := Ideal) x0 x1 x2 x3 x4) (val_main_v40 (F := Ideal) x0 x1 x2 x3 x4 x5 x6)
          (val_main_v42 (F := Ideal) x7 x8) := rfl

theorem fn_dir :
    fn (F := Ideal) x0 x1 x2 x3 x4 x5 x6 x7 x8 x9 x10 x11
      = fn_part3 (F := Ideal) x9 x10 x11 (val_main_v14 (F := Ideal) x2 x3 x4) (val_main_v18 (F := Ideal) x2 x3 x4)
          (okArr (val_main_v46 (F := Ideal) x0 x1 x2 x3 x4 x7 x8)) (rowArr (val_main_v46 (F := Ideal) x0 x1 x2 x3 x4 x7 x8))
          (val_main_v48 (F := Ideal) x0 x1 x2 x3 x4 x5 x6) (val_main_v50 (F := Ideal) x0 x1 x2 x3 x4 x7 x8) := by
  rw [fn_moments]; rfl

theorem fn_weights :
    fn (F := Ideal) x0 x1 x2 x3 x4 x5 x6 x7 x8 x9 x10 x11
      = fn_part4 (F := Ideal) x11
          (okArr (val_main_v46 (F := Ideal) x0 x1 x2 x3 x4 x7 x8)) (rowArr (val_main_v46 (F := Ideal) x0 x1 x2 x3 x4 x7 x8))
          (val_main_v111 (F := Ideal) x0 x1 x2 x3 x4 x5 x6 x7 x8 x9 x10)
          (val_main_v113 (F := Ideal) x0 x1 x2 x3 x4 x5 x6 x7 x8 x9 x10) := by
  rw [fn_dir]; rfl

/-- The mask, from the reference's second moments and dithered quotients. -/
theorem fn_eq :
    fn (F := Ideal) x0 x1 x2 x3 x4 x5 x6 x7 x8 x9 x10 x11
      = fn_part5 (F := Ideal)
          (okArr (val_main_v46 (F := Ideal) x0 x1 x2 x3 x4 x7 x8)) (rowArr (val_main_v46 (F := Ideal) x0 x1 x2 x3 x4 x7 x8))
          (broadcastInDim S5632x2048 ![0] bcast_S5632_S5632x2048_0 (rowArr (val_main_v46 (F := Ideal) x0 x1 x2 x3 x4 x7 x8)))
          (fracArr (val_main_v127 (F := Ideal) x0 x1 x2 x3 x4 x5 x6 x7 x8 x9 x10 x11)) := by
  rw [fn_weights]; rfl

end

/-- A set bit of `okArr` says that the second moment is good. -/
theorem ok_good (V : FVec Ideal S5632x384 .f32) (i : S5632x384.Idx) (h : okArr V i = 1#1) : Good (V i) := by
  change IntOp.ori (Ideal.cmp .oeq (V i) (Ideal.ofBits .f32 0x00000000#32))
    (IntOp.andi (Ideal.cmp .oge (V i) (Ideal.ofBits .f32 0x00800000#32))
      (Ideal.cmp .olt (V i) (Ideal.ofBits .f32 0x7F800000#32))) = 1#1 at h
  rw [show Ideal.ofBits .f32 0x00000000#32 = 0 from Ideal.ofBits_zero_f32] at h
  unfold Good
  generalize V i = v at h ⊢
  by_cases h0 : v = 0
  · exact Or.inl h0
  · refine Or.inr ?_
    by_cases h1 : Ideal.ofBits .f32 0x00800000#32 ≤ v
    · refine ⟨h1, ?_⟩
      by_contra h2
      simp [Ideal.cmp, IntOp.ori, IntOp.andi, h0, h1, h2] at h
    · simp [Ideal.cmp, IntOp.ori, IntOp.andi, h0, h1] at h

/-- A set bit of `rowArr` says that the row's second moments all are. -/
theorem row_good (V : FVec Ideal S5632x384 .f32) (o : Fin 5632) (h : rowArr V (ix1 o) = 1#1) (k : Fin 384) :
    Good (V (ix2 o k)) :=
  ok_good V _ (Host.reduce_andi_eq_one _ _ _ _ _ h (ix2 o k) (funext fun a => Fin.ext (match a with
    | ⟨0, _⟩ => rfl)))

/-- A set bit of `fracArr` says that the fraction is at most `1 - 2⁻²⁴`. -/
theorem frac_le (Y : FVec Ideal S5632x2048 .f32) (i : S5632x2048.Idx) (h : fracArr Y i = 1#1) :
    Y i - Ideal.liftRound Int.floor (Y i) ≤ Ideal.ofBits .f32 0x3F7FFFFF#32 := by
  change Ideal.cmp .ole (Y i - Ideal.liftRound Int.floor (Y i)) (Ideal.ofBits .f32 0x3F7FFFFF#32) = 1#1 at h
  by_contra h2
  simp [Ideal.cmp, h2] at h

/-- Two bits whose conjunction is set are set. -/
theorem and_bits : ∀ a b : BitVec 1, IntOp.andi a b = 1#1 → a = 1#1 ∧ b = 1#1 := by decide

section
variable (x0 : Vec Ideal S1x256x2048 .bf16) (x1 : Vec Ideal S1x256x5632 .bf16) (x2 : Vec Ideal S384x1024 .i8)
  (x3 x4 : Vec Ideal S384x8 .f32) (x5 : Vec Ideal S5632x384 .i8) (x6 : Vec Ideal S5632x3 .f32)
  (x7 : Vec Ideal S5632x384 .i8) (x8 : Vec Ideal S5632x3 .f32) (x9 : Vec Ideal S5632x2048 .i8)
  (x10 : Vec Ideal S5632 .f32) (x11 : Vec Ideal S5632x2048 .i8)

theorem row_of (o : Fin 5632) (h : rowArr (val_main_v46 (F := Ideal) x0 x1 x2 x3 x4 x7 x8) (ix1 o) = 1#1) :
    ((argsOf x0 x1 x2 x3 x4 x5 x6 x7 x8 x9 x10 x11).row o).good (argsOf x0 x1 x2 x3 x4 x5 x6 x7 x8 x9 x10 x11).x
      (argsOf x0 x1 x2 x3 x4 x5 x6 x7 x8 x9 x10 x11).P := fun k => by
  rw [← v_at]
  exact row_good _ o h k

/-- The mask of the direction. -/
theorem mask_n (o : Fin 5632) (k : Fin 384)
    (h : (fn (F := Ideal) x0 x1 x2 x3 x4 x5 x6 x7 x8 x9 x10 x11).2.2.2.1 (ix2 o k) = 1#1) :
    Good (((argsOf x0 x1 x2 x3 x4 x5 x6 x7 x8 x9 x10 x11).row o).v (argsOf x0 x1 x2 x3 x4 x5 x6 x7 x8 x9 x10 x11).x
      (argsOf x0 x1 x2 x3 x4 x5 x6 x7 x8 x9 x10 x11).P k) := by
  rw [fn_eq] at h
  rw [← v_at]
  exact ok_good _ _ h

theorem bcast_row (b : IVec S5632 1) (o : Fin 5632) (d : Fin 2048) :
    broadcastInDim S5632x2048 ![0] bcast_S5632_S5632x2048_0 b (ix2 o d) = b (ix1 o) := by
  pointwise []

theorem cast_row (b : IVec S5632 1) (o : Fin 5632) :
    shapeCast S1x5632 b shapeCasts_S5632_S1x5632 (ix2 0 o) = b (ix1 o) := by
  pointwise []

/-- The mask of each result, from the four arrays. -/
theorem part_delta (ok : IVec S5632x384 1) (row : IVec S5632 1) (b f : IVec S5632x2048 1) :
    (fn_part5 (F := Ideal) ok row b f).2.2.1 = b := rfl

theorem part_wScale (ok : IVec S5632x384 1) (row : IVec S5632 1) (b f : IVec S5632x2048 1) :
    (fn_part5 (F := Ideal) ok row b f).2.1 = shapeCast S1x5632 row shapeCasts_S5632_S1x5632 := rfl

/-- The mask of the update. -/
theorem mask_delta (o : Fin 5632) (d : Fin 2048)
    (h : (fn (F := Ideal) x0 x1 x2 x3 x4 x5 x6 x7 x8 x9 x10 x11).2.2.1 (ix2 o d) = 1#1) :
    ((argsOf x0 x1 x2 x3 x4 x5 x6 x7 x8 x9 x10 x11).row o).good (argsOf x0 x1 x2 x3 x4 x5 x6 x7 x8 x9 x10 x11).x
      (argsOf x0 x1 x2 x3 x4 x5 x6 x7 x8 x9 x10 x11).P := by
  rw [fn_eq, part_delta, bcast_row] at h
  exact row_of _ _ _ _ _ _ _ _ _ _ _ _ o h

/-- The mask of the weights' scales. -/
theorem mask_wScale (o : Fin 5632)
    (h : (fn (F := Ideal) x0 x1 x2 x3 x4 x5 x6 x7 x8 x9 x10 x11).2.1 (ix2 0 o) = 1#1) :
    ((argsOf x0 x1 x2 x3 x4 x5 x6 x7 x8 x9 x10 x11).row o).good (argsOf x0 x1 x2 x3 x4 x5 x6 x7 x8 x9 x10 x11).x
      (argsOf x0 x1 x2 x3 x4 x5 x6 x7 x8 x9 x10 x11).P := by
  rw [fn_eq, part_wScale, cast_row] at h
  exact row_of _ _ _ _ _ _ _ _ _ _ _ _ o h

/-- The mask of the weights' codes. -/
theorem mask_wCode (o : Fin 5632) (d : Fin 2048)
    (h : (fn (F := Ideal) x0 x1 x2 x3 x4 x5 x6 x7 x8 x9 x10 x11).1 (ix2 o d) = 1#1) :
    ((argsOf x0 x1 x2 x3 x4 x5 x6 x7 x8 x9 x10 x11).row o).good (argsOf x0 x1 x2 x3 x4 x5 x6 x7 x8 x9 x10 x11).x
      (argsOf x0 x1 x2 x3 x4 x5 x6 x7 x8 x9 x10 x11).P
    ∧ ((argsOf x0 x1 x2 x3 x4 x5 x6 x7 x8 x9 x10 x11).row o).dither (argsOf x0 x1 x2 x3 x4 x5 x6 x7 x8 x9 x10 x11).x
        (argsOf x0 x1 x2 x3 x4 x5 x6 x7 x8 x9 x10 x11).P d
      - Ideal.liftRound Int.floor (((argsOf x0 x1 x2 x3 x4 x5 x6 x7 x8 x9 x10 x11).row o).dither
          (argsOf x0 x1 x2 x3 x4 x5 x6 x7 x8 x9 x10 x11).x (argsOf x0 x1 x2 x3 x4 x5 x6 x7 x8 x9 x10 x11).P d)
      ≤ Ideal.ofBits .f32 0x3F7FFFFF#32 := by
  rw [fn_eq] at h
  obtain ⟨h1, h2⟩ := and_bits _ _ h
  refine ⟨row_of _ _ _ _ _ _ _ _ _ _ _ _ o ((bcast_row _ o d).symm.trans h1), ?_⟩
  rw [← dither_at]
  exact frac_le _ _ h2

end

end Cert.ReferenceIdeal.Mask

end
-- ==== Proof.Blocks.lean ====
/- What one grid point computes, as functions of the blocks it reads: the projector scratch, the projected gradient, the
   two moments of a group of 128 rows, the direction, the group's scale and codes, the weight update of 256 columns, the
   row scale and the dithered weight codes. Every function is the kernel's own operations in the kernel's own order; the
   kernel runs each of them once per group or per column tile. -/
module

public import proofs.«01_k».proof.Proof.Gen.KernelIdeal

@[expose] public section

set_option maxRecDepth 16384

noncomputable section

namespace Cert.KernelIdeal.Blocks

open Idealize.ShloMosaic
open Cert.KernelIdeal.Gen

variable {F : FTy → Type} [FloatOps F] [Named F]

/-- The activations, transposed: what the first scratch holds. -/
def xtK (x : Vec F S256x2048 .bf16) : FVec F S2048x256 .bf16 :=
  shapeCast S2048x256 (transpose S2048x256 [1, 0] (shapeCast S256x2048 x shapeCasts_S256x2048_S256x2048)
    transposes_S256x2048_p1_0_S2048x256) shapeCasts_S2048x256_S2048x256

/-- The 0/1 matrix that moves column `k` of [low nibbles | high nibbles] to its place in the interleaved order. -/
def permK : FVec F S256x256 .bf16 :=
  truncf .bf16 (select
    (cmpi .eq
      (select (cmpi .slt (iota .tc S256x256 32 [0] iota_S256x256_d0_w32) (broadcast S256x256 128#32))
        (muli (broadcast S256x256 2#32) (iota .tc S256x256 32 [0] iota_S256x256_d0_w32))
        (addi (muli (broadcast S256x256 2#32)
            (subi (iota .tc S256x256 32 [0] iota_S256x256_d0_w32) (broadcast S256x256 128#32)))
          (broadcast S256x256 1#32)))
      (iota .tc S256x256 32 [1] iota_S256x256_d1_w32))
    (broadcast S256x256 (Scalar.ofBits .f32 0x3F800000#32 : F .f32))
    (broadcast S256x256 (Scalar.ofBits .f32 0x00000000#32 : F .f32))) bitsLt_bf16_f32

/-- The low and the high nibbles of a group's codes, side by side. -/
def nibblesK (pc : Vec F S384x128 .i8) : FVec F S384x256 .bf16 :=
  concatenate S384x256 1
    [⟨S384x128, truncf .bf16 (sitofp (F := F) .f32 (andi (extui 32 pc natLt_8_32) (broadcast S384x128 15#32))) bitsLt_bf16_f32⟩,
     ⟨S384x128, truncf .bf16 (sitofp (F := F) .f32 (shrsi (extui 32 pc natLt_8_32) (broadcast S384x128 4#32))) bitsLt_bf16_f32⟩]
    concatenates_S384x128_S384x128_S384x256_d1

/-- A column of one number per projector row, across 256 columns, rounded to the matrix unit's input format. -/
def colK (z : Vec F S384x1 .f32) : FVec F S384x256 .bf16 :=
  truncf .bf16 (broadcastTo S384x256 (shapeCast S384x1 z shapeCasts_S384x1_S384x1) broadcasts_S384x1_S384x256) bitsLt_bf16_f32

/-- One group of the projector, dequantized: 256 columns of the second scratch. -/
def projK (pc : Vec F S384x128 .i8) (pz ps : Vec F S384x1 .f32) : FVec F S384x256 .bf16 :=
  shapeCast S384x256 (mulf (subf
    (truncf .bf16 (matmul dot_S384x256_S256x256_S384x256_1_0_0_1_n_n none (nibblesK pc) permK
      (constant S384x256 .f32 0x00000000#32)) bitsLt_bf16_f32) (colK pz)) (colK ps)) shapeCasts_S384x256_S384x256

/-- The projected gradient of the block's 256 output rows. -/
def rK (xt : Vec F S2048x256 .bf16) (dy : Vec F S256x256 .bf16) (p : Vec F S384x2048 .bf16) : FVec F S384x256 .f32 :=
  matmul dot_S384x2048_S2048x256_S384x256_1_0_0_1_n_n none p
    (truncf .bf16 (matmul dot_S2048x256_S256x256_S2048x256_1_0_0_1_n_n none xt
      (shapeCast S256x256 dy shapeCasts_S256x256_S256x256) (constant S2048x256 .f32 0x00000000#32)) bitsLt_bf16_f32)
    (constant S384x256 .f32 0x00000000#32)

/-- A group's stored codes, transposed and as numbers. -/
def codesK (mc : Vec F S256x128 .i8) : FVec F S128x256 .f32 :=
  extf .f32 (transpose S128x256 [1, 0] (sitofp (F := F) .bf16 mc) transposes_S256x128_p1_0_S128x256) bitsLt_bf16_f32

/-- A row of 256 numbers times the constant `b`. -/
def timesK (b : BitVec 32) (ms : Vec F S1x256 .f32) : FVec F S1x256 .f32 :=
  mulf (broadcast S1x256 (Scalar.ofBits .f32 b : F .f32)) (shapeCast S1x256 ms shapeCasts_S1x256_S1x256)

/-- The first moment of a group of 128 rows. -/
def mK (r : FVec F S128x256 .f32) (mc : Vec F S256x128 .i8) (ms : Vec F S1x256 .f32) : FVec F S128x256 .f32 :=
  addf (mulf (codesK mc) (broadcastTo S128x256 (timesK 0x3F666666#32 ms) broadcasts_S1x256_S128x256))
    (mulf (broadcast S128x256 (Scalar.ofBits .f32 0x3DCCCCCD#32 : F .f32)) r)

/-- The second moment of a group of 128 rows. -/
def vK (r : FVec F S128x256 .f32) (vc : Vec F S256x128 .i8) (vs : Vec F S1x256 .f32) : FVec F S128x256 .f32 :=
  addf (mulf (codesK vc) (broadcastTo S128x256 (timesK 0x3F7FBE77#32 vs) broadcasts_S1x256_S128x256))
    (mulf (mulf (broadcast S128x256 (Scalar.ofBits .f32 0x3A83126F#32 : F .f32)) r) r)

/-- The second moment, corrected for its start at zero. -/
def vbK (v : FVec F S128x256 .f32) : FVec F S128x256 .f32 :=
  mulf v (broadcast S128x256 (Named.named κ "inv_bc2" 0x42C8E6D3#32 : F .f32))

/-- The update direction of a group, transposed. -/
def nK (m v : FVec F S128x256 .f32) : FVec F S256x128 .f32 :=
  transpose S256x128 [1, 0]
    (mulf (mulf m (broadcast S128x256 (Named.named κ "inv_bc1" 0x3FC48605#32 : F .f32)))
      (divf (broadcast S128x256 (Scalar.ofBits .f32 0x3F800000#32 : F .f32))
        (addf (mulf (vbK v) (rsqrt (maximumf (vbK v) (broadcast S128x256 (Scalar.ofBits .f32 0x02081CEA#32 : F .f32)))))
          (broadcast S128x256 (Scalar.ofBits .f32 0x322BCC77#32 : F .f32)))))
    transposes_S128x256_p1_0_S256x128

/-- The scale of a group: its largest magnitude over 127, and 1 for a group of zeros. -/
def scaleK (a : FVec F S128x256 .f32) : FVec F S1x256 .f32 :=
  let top := shapeCast S1x256 (multiReduction .maximumf [0] S256 (absf a) 0xFF800000#32 reduces_S128x256_S256 (.inl rfl) rfl)
    shapeCasts_S256_S1x256
  select (cmpf .oeq top (broadcast S1x256 (Scalar.ofBits .f32 0x00000000#32 : F .f32)))
    (broadcast S1x256 (Scalar.ofBits .f32 0x3F800000#32 : F .f32))
    (divf top (broadcast S1x256 (Scalar.ofBits .f32 0x42FE0000#32 : F .f32)))

/-- The codes of a group under its scale, transposed. -/
def codeK (a : FVec F S128x256 .f32) : IVec S256x128 8 :=
  trunci 8 (transpose S256x128 [1, 0] (trunci 16 (fptosi 32
    (minimumf (broadcast S128x256 (Scalar.ofBits .f32 0x42FE0000#32 : F .f32))
      (maximumf (broadcast S128x256 (Scalar.ofBits .f32 0xC2FE0000#32 : F .f32))
        (roundeven (mulf a (broadcastTo S128x256
          (divf (broadcast S1x256 (Scalar.ofBits .f32 0x3F800000#32 : F .f32)) (scaleK a)) broadcasts_S1x256_S128x256))))))
      natLt_16_32) transposes_S128x256_p1_0_S256x128) natLt_8_16

/-- The three groups' directions side by side, rounded to the matrix unit's input format. -/
def nbK (n0 n1 n2 : FVec F S256x128 .f32) : FVec F S256x384 .bf16 :=
  concatenate S256x384 1 [⟨S256x128, truncf .bf16 n0 bitsLt_bf16_f32⟩, ⟨S256x128, truncf .bf16 n1 bitsLt_bf16_f32⟩,
    ⟨S256x128, truncf .bf16 n2 bitsLt_bf16_f32⟩] concatenates_S256x128_S256x128_S256x128_S256x384_d1

/-- The weight scale of each row of the block, as a column. -/
def wcolK (ws : Vec F S1x256 .f32) : FVec F S256x1 .f32 :=
  extractStridedSlice S256x1 ![0, 0] (transpose S256x128 [1, 0] (broadcastTo S128x256
    (shapeCast S1x256 (shapeCast S1x256 ws shapeCasts_S1x256_S1x256) shapeCasts_S1x256_S1x256) broadcasts_S1x256_S128x256)
    transposes_S128x256_p1_0_S256x128) slices_S256x128_o0_0_S256x1

/-- The step of 256 columns of the weight. -/
def deltaK (nb : FVec F S256x384 .bf16) (p : Vec F S384x256 .bf16) : FVec F S256x256 .f32 :=
  mulf (broadcast S256x256 (Scalar.ofBits .f32 0x3A83126F#32 : F .f32))
    (matmul dot_S256x384_S384x256_S256x256_1_0_0_1_n_n none nb p (constant S256x256 .f32 0x00000000#32))

/-- The new weight in 256 columns. -/
def wK (nb : FVec F S256x384 .bf16) (col : FVec F S256x1 .f32) (p : Vec F S384x256 .bf16) (wc : Vec F S256x256 .i8) :
    FVec F S256x256 .f32 :=
  subf (mulf (extf .f32 (sitofp (F := F) .bf16 wc) bitsLt_bf16_f32) (broadcastTo S256x256 col broadcasts_S256x1_S256x256))
    (deltaK nb p)

/-- The running largest magnitude of a row, in 128 lanes, after 256 more columns. -/
def amaxK (acc : FVec F S256x128 .f32) (w : FVec F S256x256 .f32) : FVec F S256x128 .f32 :=
  maximumf acc (maximumf (extractStridedSlice S256x128 ![0, 0] (absf w) slices_S256x256_o0_0_S256x128)
    (extractStridedSlice S256x128 ![0, 128] (absf w) slices_S256x256_o0_128_S256x128))

/-- The new weight scale of each row: the largest of its lanes over 127, and 1 for a row of zeros. -/
def wscaleK (acc : FVec F S256x128 .f32) : FVec F S256x1 .f32 :=
  let top := shapeCast S256x1 (multiReduction .maximumf [1] S256 acc 0xFF800000#32 reduces_S256x128_S256 (.inl rfl) rfl)
    shapeCasts_S256_S256x1
  select (cmpf .oeq top (broadcast S256x1 (Scalar.ofBits .f32 0x00000000#32 : F .f32)))
    (broadcast S256x1 (Scalar.ofBits .f32 0x3F800000#32 : F .f32))
    (divf top (broadcast S256x1 (Scalar.ofBits .f32 0x42FE0000#32 : F .f32)))

/-- The new weight scales as a row. -/
def wsrowK (s : FVec F S256x1 .f32) : FVec F S1x256 .f32 :=
  extractStridedSlice S1x256 ![0, 0] (transpose S128x256 [1, 0]
    (broadcastTo S256x128 (shapeCast S256x1 s shapeCasts_S256x1_S256x1) broadcasts_S256x1_S256x128)
    transposes_S256x128_p1_0_S128x256) slices_S128x256_o0_0_S1x256

/-- `2²⁴` over the scale. -/
def invK (s : FVec F S256x1 .f32) : FVec F S256x1 .f32 :=
  mulf (divf (broadcast S256x1 (Scalar.ofBits .f32 0x3F800000#32 : F .f32)) s)
    (broadcast S256x1 (Scalar.ofBits .f32 0x4B800000#32 : F .f32))

/-- The dithered weight codes of 256 columns. -/
def wcodeK (inv : FVec F S256x1 .f32) (w : Vec F S256x256 .f32) (sr : Vec F S256x256 .i8) : IVec S256x256 8 :=
  trunci 8 (shrsi (addi
    (fptosi 32 (roundeven (minimumf (broadcast S256x256 (Scalar.ofBits .f32 0x4EFE0000#32 : F .f32))
      (maximumf (broadcast S256x256 (Scalar.ofBits .f32 0xCEFE0000#32 : F .f32))
        (mulf w (broadcastTo S256x256 inv broadcasts_S256x1_S256x256))))))
    (shli (extui 32 sr natLt_8_32) (broadcast S256x256 16#32))) (broadcast S256x256 24#32)) natLt_8_32

end Cert.KernelIdeal.Blocks

end
-- ==== Proof.Point.lean ====
/- The kernel's block functions put together: what one grid point leaves in each of its outputs, as a list of tiles, from
   the loads it makes. -/
module

public import proofs.«01_k».proof.Proof.Blocks
public import Idealize.ShloMosaic.Lib.Pipeline.ValueKit.Tiles
public import Idealize.ShloMosaic.Lib.Pointwise

@[expose] public section

set_option maxRecDepth 16384

noncomputable section

namespace Cert.KernelIdeal.Blocks

open Idealize.ShloMosaic Idealize.SL.Sem
open Cert.KernelIdeal.Gen

variable {F : FTy → Type} [FloatOps F] [Named F]

/-! ## Tiles of a block, and what a list of tile stores leaves -/

/-- Tile `j` of a 256×2048 block cut in 8 256×256 tiles. -/
def wTile (j : Fin 8) : Rect S256x2048 := Rect.unit ![0, 256 * j.val] (S256x256).size
  (fun x => match x with
    | ⟨0, _⟩ => by show 0 + 256 ≤ 256; omega
    | ⟨1, _⟩ => by show 256 * j.val + 256 ≤ 2048; omega)

theorem wTile_emb (j : Fin 8) (x : (S256x256).Idx) :
    ((wTile j).emb x 0 : ℕ) = (x 0).val ∧ ((wTile j).emb x 1 : ℕ) = 256 * j.val + (x 1).val :=
  ⟨by show 0 + 1 * (x 0).val = _; omega, by show 256 * j.val + 1 * (x 1).val = _; omega⟩

/-- The 8 tile stores of a whole block, last first. -/
def wTiles {e : EltTy} (f : Fin 8 → (S256x256).Idx → Elt F e) : List (View.Piece (Elt F) S256x2048 e) :=
  [⟨wTile 7, f 7⟩, ⟨wTile 6, f 6⟩, ⟨wTile 5, f 5⟩, ⟨wTile 4, f 4⟩, ⟨wTile 3, f 3⟩, ⟨wTile 2, f 2⟩, ⟨wTile 1, f 1⟩, ⟨wTile 0, f 0⟩]

/-- They leave, at an index, the tile it lies in. -/
theorem canon_wTiles {e : EltTy} (f : Fin 8 → (S256x256).Idx → Elt F e) (y : (S256x2048).Idx) (j : Fin 8) (x : (S256x256).Idx)
    (h0 : (y 0).val = (x 0).val) (h1 : (y 1).val = 256 * j.val + (x 1).val) :
    View.canon (wTiles f) y = f j x := by
  have hx : (wTile j).emb x = y := by
    funext a
    apply Fin.ext
    match a with
    | ⟨0, _⟩ => exact (wTile_emb j x).1.trans h0.symm
    | ⟨1, _⟩ => exact (wTile_emb j x).2.trans h1.symm
  have hmem : (⟨wTile j, f j⟩ : View.Piece (Elt F) S256x2048 e) ∈ wTiles f := by
    fin_cases j <;> simp [wTiles]
  have hc : ∀ p ∈ wTiles f, ∀ z : p.1.shape.Idx, p.1.emb z = y → p.2 z = f j x := by
    have key : ∀ k : Fin 8, ∀ z : (wTile k).shape.Idx, (wTile k).emb z = y → f k z = f j x := by
      intro k z hz
      have e0 : (y 0).val = (z 0).val := by
        rw [← hz]; exact (wTile_emb k z).1
      have e1 : (y 1).val = 256 * k.val + (z 1).val := by
        rw [← hz]; exact (wTile_emb k z).2
      have b0 : (z 0).val < 256 := (z 0).isLt
      have b1 : (z 1).val < 256 := (z 1).isLt
      have c0 : (x 0).val < 256 := (x 0).isLt
      have c1 : (x 1).val < 256 := (x 1).isLt
      have hk : k = j := Fin.ext (by omega)
      subst hk
      have : z = x := by
        funext a
        apply Fin.ext
        match a with
        | ⟨0, _⟩ => show (z 0).val = (x 0).val; omega
        | ⟨1, _⟩ => show (z 1).val = (x 1).val; omega
      rw [this]
    intro p hp
    simp only [wTiles, List.mem_cons, List.not_mem_nil, or_false] at hp
    rcases hp with rfl | rfl | rfl | rfl | rfl | rfl | rfl | rfl <;> exact key _
  exact View.canon_eq_of_allAt _ _ _ ⟨_, hmem, by
    rw [← Rect.map_emb_univ]; exact Finset.mem_map.mpr ⟨x, Finset.mem_univ _, hx⟩⟩ hc

/-- Tile `j` of a 384×2048 block cut in 8 384×256 tiles. -/
def pTile (j : Fin 8) : Rect S384x2048 := Rect.unit ![0, 256 * j.val] (S384x256).size
  (fun x => match x with
    | ⟨0, _⟩ => by show 0 + 384 ≤ 384; omega
    | ⟨1, _⟩ => by show 256 * j.val + 256 ≤ 2048; omega)

theorem pTile_emb (j : Fin 8) (x : (S384x256).Idx) :
    ((pTile j).emb x 0 : ℕ) = (x 0).val ∧ ((pTile j).emb x 1 : ℕ) = 256 * j.val + (x 1).val :=
  ⟨by show 0 + 1 * (x 0).val = _; omega, by show 256 * j.val + 1 * (x 1).val = _; omega⟩

/-- The 8 tile stores of a whole block, last first. -/
def pTiles {e : EltTy} (f : Fin 8 → (S384x256).Idx → Elt F e) : List (View.Piece (Elt F) S384x2048 e) :=
  [⟨pTile 7, f 7⟩, ⟨pTile 6, f 6⟩, ⟨pTile 5, f 5⟩, ⟨pTile 4, f 4⟩, ⟨pTile 3, f 3⟩, ⟨pTile 2, f 2⟩, ⟨pTile 1, f 1⟩, ⟨pTile 0, f 0⟩]

/-- They leave, at an index, the tile it lies in. -/
theorem canon_pTiles {e : EltTy} (f : Fin 8 → (S384x256).Idx → Elt F e) (y : (S384x2048).Idx) (j : Fin 8) (x : (S384x256).Idx)
    (h0 : (y 0).val = (x 0).val) (h1 : (y 1).val = 256 * j.val + (x 1).val) :
    View.canon (pTiles f) y = f j x := by
  have hx : (pTile j).emb x = y := by
    funext a
    apply Fin.ext
    match a with
    | ⟨0, _⟩ => exact (pTile_emb j x).1.trans h0.symm
    | ⟨1, _⟩ => exact (pTile_emb j x).2.trans h1.symm
  have hmem : (⟨pTile j, f j⟩ : View.Piece (Elt F) S384x2048 e) ∈ pTiles f := by
    fin_cases j <;> simp [pTiles]
  have hc : ∀ p ∈ pTiles f, ∀ z : p.1.shape.Idx, p.1.emb z = y → p.2 z = f j x := by
    have key : ∀ k : Fin 8, ∀ z : (pTile k).shape.Idx, (pTile k).emb z = y → f k z = f j x := by
      intro k z hz
      have e0 : (y 0).val = (z 0).val := by
        rw [← hz]; exact (pTile_emb k z).1
      have e1 : (y 1).val = 256 * k.val + (z 1).val := by
        rw [← hz]; exact (pTile_emb k z).2
      have b0 : (z 0).val < 384 := (z 0).isLt
      have b1 : (z 1).val < 256 := (z 1).isLt
      have c0 : (x 0).val < 384 := (x 0).isLt
      have c1 : (x 1).val < 256 := (x 1).isLt
      have hk : k = j := Fin.ext (by omega)
      subst hk
      have : z = x := by
        funext a
        apply Fin.ext
        match a with
        | ⟨0, _⟩ => show (z 0).val = (x 0).val; omega
        | ⟨1, _⟩ => show (z 1).val = (x 1).val; omega
      rw [this]
    intro p hp
    simp only [pTiles, List.mem_cons, List.not_mem_nil, or_false] at hp
    rcases hp with rfl | rfl | rfl | rfl | rfl | rfl | rfl | rfl <;> exact key _
  exact View.canon_eq_of_allAt _ _ _ ⟨_, hmem, by
    rw [← Rect.map_emb_univ]; exact Finset.mem_map.mpr ⟨x, Finset.mem_univ _, hx⟩⟩ hc

/-- Tile `j` of a 256×384 block cut in 3 256×128 tiles. -/
def gTile (j : Fin 3) : Rect S256x384 := Rect.unit ![0, 128 * j.val] (S256x128).size
  (fun x => match x with
    | ⟨0, _⟩ => by show 0 + 256 ≤ 256; omega
    | ⟨1, _⟩ => by show 128 * j.val + 128 ≤ 384; omega)

theorem gTile_emb (j : Fin 3) (x : (S256x128).Idx) :
    ((gTile j).emb x 0 : ℕ) = (x 0).val ∧ ((gTile j).emb x 1 : ℕ) = 128 * j.val + (x 1).val :=
  ⟨by show 0 + 1 * (x 0).val = _; omega, by show 128 * j.val + 1 * (x 1).val = _; omega⟩

/-- The 3 tile stores of a whole block, last first. -/
def gTiles {e : EltTy} (f : Fin 3 → (S256x128).Idx → Elt F e) : List (View.Piece (Elt F) S256x384 e) :=
  [⟨gTile 2, f 2⟩, ⟨gTile 1, f 1⟩, ⟨gTile 0, f 0⟩]

/-- They leave, at an index, the tile it lies in. -/
theorem canon_gTiles {e : EltTy} (f : Fin 3 → (S256x128).Idx → Elt F e) (y : (S256x384).Idx) (j : Fin 3) (x : (S256x128).Idx)
    (h0 : (y 0).val = (x 0).val) (h1 : (y 1).val = 128 * j.val + (x 1).val) :
    View.canon (gTiles f) y = f j x := by
  have hx : (gTile j).emb x = y := by
    funext a
    apply Fin.ext
    match a with
    | ⟨0, _⟩ => exact (gTile_emb j x).1.trans h0.symm
    | ⟨1, _⟩ => exact (gTile_emb j x).2.trans h1.symm
  have hmem : (⟨gTile j, f j⟩ : View.Piece (Elt F) S256x384 e) ∈ gTiles f := by
    fin_cases j <;> simp [gTiles]
  have hc : ∀ p ∈ gTiles f, ∀ z : p.1.shape.Idx, p.1.emb z = y → p.2 z = f j x := by
    have key : ∀ k : Fin 3, ∀ z : (gTile k).shape.Idx, (gTile k).emb z = y → f k z = f j x := by
      intro k z hz
      have e0 : (y 0).val = (z 0).val := by
        rw [← hz]; exact (gTile_emb k z).1
      have e1 : (y 1).val = 128 * k.val + (z 1).val := by
        rw [← hz]; exact (gTile_emb k z).2
      have b0 : (z 0).val < 256 := (z 0).isLt
      have b1 : (z 1).val < 128 := (z 1).isLt
      have c0 : (x 0).val < 256 := (x 0).isLt
      have c1 : (x 1).val < 128 := (x 1).isLt
      have hk : k = j := Fin.ext (by omega)
      subst hk
      have : z = x := by
        funext a
        apply Fin.ext
        match a with
        | ⟨0, _⟩ => show (z 0).val = (x 0).val; omega
        | ⟨1, _⟩ => show (z 1).val = (x 1).val; omega
      rw [this]
    intro p hp
    simp only [gTiles, List.mem_cons, List.not_mem_nil, or_false] at hp
    rcases hp with rfl | rfl | rfl <;> exact key _
  exact View.canon_eq_of_allAt _ _ _ ⟨_, hmem, by
    rw [← Rect.map_emb_univ]; exact Finset.mem_map.mpr ⟨x, Finset.mem_univ _, hx⟩⟩ hc

/-- Tile `j` of a 3×256 block cut in 3 1×256 tiles. -/
def sTile (j : Fin 3) : Rect S3x256 := Rect.unit ![1 * j.val, 0] (S1x256).size
  (fun x => match x with
    | ⟨0, _⟩ => by show 1 * j.val + 1 ≤ 3; omega
    | ⟨1, _⟩ => by show 0 + 256 ≤ 256; omega)

theorem sTile_emb (j : Fin 3) (x : (S1x256).Idx) :
    ((sTile j).emb x 0 : ℕ) = 1 * j.val + (x 0).val ∧ ((sTile j).emb x 1 : ℕ) = (x 1).val :=
  ⟨by show 1 * j.val + 1 * (x 0).val = _; omega, by show 0 + 1 * (x 1).val = _; omega⟩

/-- The 3 tile stores of a whole block, last first. -/
def sTiles {e : EltTy} (f : Fin 3 → (S1x256).Idx → Elt F e) : List (View.Piece (Elt F) S3x256 e) :=
  [⟨sTile 2, f 2⟩, ⟨sTile 1, f 1⟩, ⟨sTile 0, f 0⟩]

/-- They leave, at an index, the tile it lies in. -/
theorem canon_sTiles {e : EltTy} (f : Fin 3 → (S1x256).Idx → Elt F e) (y : (S3x256).Idx) (j : Fin 3) (x : (S1x256).Idx)
    (h0 : (y 0).val = 1 * j.val + (x 0).val) (h1 : (y 1).val = (x 1).val) :
    View.canon (sTiles f) y = f j x := by
  have hx : (sTile j).emb x = y := by
    funext a
    apply Fin.ext
    match a with
    | ⟨0, _⟩ => exact (sTile_emb j x).1.trans h0.symm
    | ⟨1, _⟩ => exact (sTile_emb j x).2.trans h1.symm
  have hmem : (⟨sTile j, f j⟩ : View.Piece (Elt F) S3x256 e) ∈ sTiles f := by
    fin_cases j <;> simp [sTiles]
  have hc : ∀ p ∈ sTiles f, ∀ z : p.1.shape.Idx, p.1.emb z = y → p.2 z = f j x := by
    have key : ∀ k : Fin 3, ∀ z : (sTile k).shape.Idx, (sTile k).emb z = y → f k z = f j x := by
      intro k z hz
      have e0 : (y 0).val = 1 * k.val + (z 0).val := by
        rw [← hz]; exact (sTile_emb k z).1
      have e1 : (y 1).val = (z 1).val := by
        rw [← hz]; exact (sTile_emb k z).2
      have b0 : (z 0).val < 1 := (z 0).isLt
      have b1 : (z 1).val < 256 := (z 1).isLt
      have c0 : (x 0).val < 1 := (x 0).isLt
      have c1 : (x 1).val < 256 := (x 1).isLt
      have hk : k = j := Fin.ext (by omega)
      subst hk
      have : z = x := by
        funext a
        apply Fin.ext
        match a with
        | ⟨0, _⟩ => show (z 0).val = (x 0).val; omega
        | ⟨1, _⟩ => show (z 1).val = (x 1).val; omega
      rw [this]
    intro p hp
    simp only [sTiles, List.mem_cons, List.not_mem_nil, or_false] at hp
    rcases hp with rfl | rfl | rfl <;> exact key _
  exact View.canon_eq_of_allAt _ _ _ ⟨_, hmem, by
    rw [← Rect.map_emb_univ]; exact Finset.mem_map.mpr ⟨x, Finset.mem_univ _, hx⟩⟩ hc

/-! ## One grid point -/

/-- What a grid point loads: the gradient block, the two scratches (the projector also tile by tile), and the moment,
    weight and dither blocks group by group and tile by tile. -/
structure Loads (F : FTy → Type) where
  dy : Vec F S256x256 .bf16
  xt : Vec F S2048x256 .bf16
  p : Vec F S384x2048 .bf16
  pj : Fin 8 → Vec F S384x256 .bf16
  mc : Fin 3 → Vec F S256x128 .i8
  ms : Fin 3 → Vec F S1x256 .f32
  vc : Fin 3 → Vec F S256x128 .i8
  vs : Fin 3 → Vec F S1x256 .f32
  wc : Fin 8 → Vec F S256x256 .i8
  ws : Vec F S1x256 .f32
  sr : Fin 8 → Vec F S256x256 .i8

variable (L : Loads F)

/-- The projected gradient's group `g`. -/
def Loads.r (g : Fin 3) : FVec F S128x256 .f32 :=
  extractStridedSlice S128x256 ![128 * g.val, 0] (rK L.xt L.dy L.p) (by fin_cases g <;> decide)
def Loads.m (g : Fin 3) : FVec F S128x256 .f32 := mK (L.r g) (L.mc g) (L.ms g)
def Loads.v (g : Fin 3) : FVec F S128x256 .f32 := vK (L.r g) (L.vc g) (L.vs g)
def Loads.n (g : Fin 3) : FVec F S256x128 .f32 := nK (L.m g) (L.v g)
def Loads.nb : FVec F S256x384 .bf16 := nbK (L.n 0) (L.n 1) (L.n 2)
def Loads.delta (j : Fin 8) : FVec F S256x256 .f32 := deltaK L.nb (L.pj j)
def Loads.w (j : Fin 8) : FVec F S256x256 .f32 := wK L.nb (wcolK L.ws) (L.pj j) (L.wc j)
def Loads.acc : FVec F S256x128 .f32 :=
  amaxK (amaxK (amaxK (amaxK (amaxK (amaxK (amaxK (amaxK
    (broadcast S256x128 (Scalar.ofBits .f32 0x00000000#32 : F .f32)) (L.w 0)) (L.w 1)) (L.w 2)) (L.w 3)) (L.w 4)) (L.w 5))
    (L.w 6)) (L.w 7)
def Loads.inv : FVec F S256x1 .f32 := invK (wscaleK L.acc)

/-- The new weights as stored in the third scratch. -/
def Loads.wStore (j : Fin 8) : FVec F S256x256 .f32 := shapeCast S256x256 (L.w j) shapeCasts_S256x256_S256x256

/-- The row of new weight scales: one store of the whole row. -/
def Loads.wsPieces : List (View.Piece (Elt F) S1x256 .f32) :=
  [⟨Rect.unit ![0, 0] S1x256.size inb_S1x256_S1x256_0_0, wsrowK (wscaleK L.acc)⟩]

/-- A way of loading from a block of shape `S`: what a rectangle of it reads. -/
abbrev Loader (F : FTy → Type) (S : Shape) (e : EltTy) := (r : Rect S) → r.shape.Idx → Elt F e

/-- The loads of a grid point, from a loader of each block. -/
def mkLoads (dy : Loader F S256x256 .bf16) (xt : Loader F S2048x256 .bf16) (p : Loader F S384x2048 .bf16)
    (mc : Loader F S256x384 .i8) (ms : Loader F S3x256 .f32) (vc : Loader F S256x384 .i8) (vs : Loader F S3x256 .f32)
    (wc : Loader F S256x2048 .i8) (ws : Loader F S1x256 .f32) (sr : Loader F S256x2048 .i8) : Loads F where
  dy := dy (Rect.unit ![0, 0] S256x256.size inb_S256x256_S256x256_0_0)
  xt := xt (Rect.unit ![0, 0] S2048x256.size inb_S2048x256_S2048x256_0_0)
  p := p (Rect.unit ![0, 0] S384x2048.size inb_S384x2048_S384x2048_0_0)
  pj j := p (pTile j)
  mc g := mc (gTile g)
  ms g := ms (sTile g)
  vc g := vc (gTile g)
  vs g := vs (sTile g)
  wc j := wc (wTile j)
  ws := ws (Rect.unit ![0, 0] S1x256.size inb_S1x256_S1x256_0_0)
  sr j := sr (wTile j)

/-- The dithered codes, from a loader of the new weights. -/
def Loads.codes (wn : Loader F S256x2048 .f32) (j : Fin 8) : IVec S256x256 8 := wcodeK L.inv (wn (wTile j)) (L.sr j)

/-! ## The first grid point's scratches -/

/-- Group `j`'s packed codes in the projector's code array. -/
def cTile (j : Fin 8) : Rect S384x1024 := Rect.unit ![0, 128 * j.val] S384x128.size
  (fun x => match x with
    | ⟨0, _⟩ => by show 0 + 384 ≤ 384; omega
    | ⟨1, _⟩ => by show 128 * j.val + 128 ≤ 1024; omega)

/-- Group `j`'s column in the projector's scales and zero points. -/
def kTile (j : Fin 8) : Rect S384x8 := Rect.unit ![0, j.val] S384x1.size
  (fun x => match x with
    | ⟨0, _⟩ => by show 0 + 384 ≤ 384; omega
    | ⟨1, _⟩ => by show j.val + 1 ≤ 8; omega)

/-- The one store of the transposed activations. -/
def xtPieces (x : Loader F S256x2048 .bf16) : List (View.Piece (Elt F) S2048x256 .bf16) :=
  [⟨Rect.unit ![0, 0] S2048x256.size inb_S2048x256_S2048x256_0_0,
    xtK (x (Rect.unit ![0, 0] S256x2048.size inb_S256x2048_S256x2048_0_0))⟩]

/-- Group `j` of the dequantized projector, from loaders of its codes, scales and zero points. -/
def projTile (pc : Loader F S384x1024 .i8) (ps pz : Loader F S384x8 .f32) (j : Fin 8) : FVec F S384x256 .bf16 :=
  projK (pc (cTile j)) (pz (kTile j)) (ps (kTile j))

/-- The loads of a grid point, from what its blocks and the two scratches hold. -/
def pointLoads (dy : Vec F S256x256 .bf16) (xt : Vec F S2048x256 .bf16) (p : Vec F S384x2048 .bf16)
    (mc : Vec F S256x384 .i8) (ms : Vec F S3x256 .f32) (vc : Vec F S256x384 .i8) (vs : Vec F S3x256 .f32)
    (wc : Vec F S256x2048 .i8) (ws : Vec F S1x256 .f32) (sr : Vec F S256x2048 .i8) : Loads F :=
  mkLoads (View.ld dy) (View.ld xt) (View.ld p) (View.ld mc) (View.ld ms) (View.ld vc) (View.ld vs) (View.ld wc)
    (View.ld ws) (View.ld sr)

/-- What the first point leaves in the first scratch. -/
def xtOf (x : Vec F S256x2048 .bf16) : Vec F S2048x256 .bf16 := View.canon (xtPieces (View.ld x))

/-- What the first point leaves in the second scratch. -/
def pOf (pc : Vec F S384x1024 .i8) (ps pz : Vec F S384x8 .f32) : Vec F S384x2048 .bf16 :=
  View.canon (pTiles (F := F) (e := .bf16) (projTile (View.ld pc) (View.ld ps) (View.ld pz)))

/-! ## What one grid point leaves in each output -/

/-- The new weights of the point's rows. -/
def Loads.wArr : Vec F S256x2048 .f32 := View.canon (wTiles (F := F) (e := .f32) L.wStore)
/-- The dithered weight codes. -/
def Loads.out12 : Vec F S256x2048 .i8 := View.canon (wTiles (F := F) (e := .i8) (L.codes (View.ld L.wArr)))
/-- The new weight scales. -/
def Loads.out13 : Vec F S1x256 .f32 := View.canon L.wsPieces
/-- The update. -/
def Loads.out14 : Vec F S256x2048 .f32 := View.canon (wTiles (F := F) (e := .f32) L.delta)
/-- The step direction. -/
def Loads.out15 : Vec F S256x384 .f32 := View.canon (gTiles (F := F) (e := .f32) L.n)
/-- The codes of the first moment. -/
def Loads.out16 : Vec F S256x384 .i8 := View.canon (gTiles (F := F) (e := .i8) (fun g => codeK (L.m g)))
/-- The scales of the first moment. -/
def Loads.out17 : Vec F S3x256 .f32 := View.canon (sTiles (F := F) (e := .f32) (fun g => scaleK (L.m g)))
/-- The codes of the second moment. -/
def Loads.out18 : Vec F S256x384 .i8 := View.canon (gTiles (F := F) (e := .i8) (fun g => codeK (L.v g)))
/-- The scales of the second moment. -/
def Loads.out19 : Vec F S3x256 .f32 := View.canon (sTiles (F := F) (e := .f32) (fun g => scaleK (L.v g)))

/-- Loading what a list of stores left loads its canonical contents. -/
theorem readCov_ld {sig : RefSig} {κ : Kind} {sp : Space} {S : Shape} {e : EltTy} (v : View sig κ sp S e)
    (L : List (View.Piece (Elt F) S e)) :
    (fun r : Rect S => v.readCov L r.toLoadRect) = View.ld (View.canon L) :=
  funext fun r => View.readCov_eq_canon' v L r

end Cert.KernelIdeal.Blocks

end
-- ==== Proof.WordsA.lean ====
/- The values the first grid point computes, named: each is the block function of its loads. -/
module

public import proofs.«01_k».proof.Proof.Gen.KernelIdeal.Frame
public import proofs.«01_k».proof.Proof.Point

@[expose] public section

set_option maxRecDepth 16384

noncomputable section

namespace Cert.KernelIdeal.Blocks

open Idealize.ShloMosaic Idealize.ShloMosaic.TcCoe Idealize.ShloMosaic.Tactic
open Cert.KernelIdeal.Gen

variable {F : FTy → Type} [FloatOps F] [Named F]

variable (c : Dev nD) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg21 : Memref sig .tc .vmem S2048x256 .bf16) (arg22 : Memref sig .tc .vmem S384x2048 .bf16) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8)

/-- The loads of the first grid point, as the run makes them. -/
def rawA : Loads F :=
  mkLoads (fun r : Rect S256x256 => View.readAt (Elt F) arg2.view r.toLoadRect (harg2.unread x1)) (fun r : Rect S2048x256 => arg21.view.readCov (xtPieces (fun r : Rect S256x2048 => View.readAt (Elt F) arg1.view r.toLoadRect (harg1.unread x0))) r.toLoadRect) (fun r : Rect S384x2048 => arg22.view.readCov (pTiles (F := F) (e := .bf16) (projTile (fun r : Rect S384x1024 => View.readAt (Elt F) arg3.view r.toLoadRect (harg3.unread x2)) (fun r : Rect S384x8 => View.readAt (Elt F) arg4.view r.toLoadRect (harg4.unread x3)) (fun r : Rect S384x8 => View.readAt (Elt F) arg5.view r.toLoadRect (harg5.unread x4)))) r.toLoadRect) (fun r : Rect S256x384 => View.readAt (Elt F) arg6.view r.toLoadRect (harg6.unread x5)) (fun r : Rect S3x256 => View.readAt (Elt F) arg7.view r.toLoadRect (harg7.unread x6)) (fun r : Rect S256x384 => View.readAt (Elt F) arg8.view r.toLoadRect (harg8.unread x7)) (fun r : Rect S3x256 => View.readAt (Elt F) arg9.view r.toLoadRect (harg9.unread x8)) (fun r : Rect S256x2048 => View.readAt (Elt F) arg10.view r.toLoadRect (harg10.unread x9)) (fun r : Rect S1x256 => View.readAt (Elt F) arg11.view r.toLoadRect (harg11.unread x10)) (fun r : Rect S256x2048 => View.readAt (Elt F) arg12.view r.toLoadRect (harg12.unread x11))

/-- They are the loads of what the blocks and the scratches hold. -/
theorem rawA_eq : (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11) = (pointLoads x1 (xtOf x0) (pOf x2 x3 x4) x5 x6 x7 x8 x9 x10 x11) := by
  have e_arg1 : (fun r : Rect S256x2048 => View.readAt (Elt F) arg1.view r.toLoadRect (harg1.unread x0)) = View.ld x0 := funext fun r => by rw [View.readAt_eq_ld, harg1.read_unread]
  have e_arg2 : (fun r : Rect S256x256 => View.readAt (Elt F) arg2.view r.toLoadRect (harg2.unread x1)) = View.ld x1 := funext fun r => by rw [View.readAt_eq_ld, harg2.read_unread]
  have e_arg3 : (fun r : Rect S384x1024 => View.readAt (Elt F) arg3.view r.toLoadRect (harg3.unread x2)) = View.ld x2 := funext fun r => by rw [View.readAt_eq_ld, harg3.read_unread]
  have e_arg4 : (fun r : Rect S384x8 => View.readAt (Elt F) arg4.view r.toLoadRect (harg4.unread x3)) = View.ld x3 := funext fun r => by rw [View.readAt_eq_ld, harg4.read_unread]
  have e_arg5 : (fun r : Rect S384x8 => View.readAt (Elt F) arg5.view r.toLoadRect (harg5.unread x4)) = View.ld x4 := funext fun r => by rw [View.readAt_eq_ld, harg5.read_unread]
  have e_arg6 : (fun r : Rect S256x384 => View.readAt (Elt F) arg6.view r.toLoadRect (harg6.unread x5)) = View.ld x5 := funext fun r => by rw [View.readAt_eq_ld, harg6.read_unread]
  have e_arg7 : (fun r : Rect S3x256 => View.readAt (Elt F) arg7.view r.toLoadRect (harg7.unread x6)) = View.ld x6 := funext fun r => by rw [View.readAt_eq_ld, harg7.read_unread]
  have e_arg8 : (fun r : Rect S256x384 => View.readAt (Elt F) arg8.view r.toLoadRect (harg8.unread x7)) = View.ld x7 := funext fun r => by rw [View.readAt_eq_ld, harg8.read_unread]
  have e_arg9 : (fun r : Rect S3x256 => View.readAt (Elt F) arg9.view r.toLoadRect (harg9.unread x8)) = View.ld x8 := funext fun r => by rw [View.readAt_eq_ld, harg9.read_unread]
  have e_arg10 : (fun r : Rect S256x2048 => View.readAt (Elt F) arg10.view r.toLoadRect (harg10.unread x9)) = View.ld x9 := funext fun r => by rw [View.readAt_eq_ld, harg10.read_unread]
  have e_arg11 : (fun r : Rect S1x256 => View.readAt (Elt F) arg11.view r.toLoadRect (harg11.unread x10)) = View.ld x10 := funext fun r => by rw [View.readAt_eq_ld, harg11.read_unread]
  have e_arg12 : (fun r : Rect S256x2048 => View.readAt (Elt F) arg12.view r.toLoadRect (harg12.unread x11)) = View.ld x11 := funext fun r => by rw [View.readAt_eq_ld, harg12.read_unread]
  unfold rawA pointLoads xtOf pOf
  simp only [readCov_ld]
  rw [e_arg1, e_arg2, e_arg3, e_arg4, e_arg5, e_arg6, e_arg7, e_arg8, e_arg9, e_arg10, e_arg11, e_arg12]

include c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11

set_option maxHeartbeats 4000000 in
/-- The normalized direction, rounded, of all three groups. -/
theorem nbA : (kernelRun0_A.sl.v286 c arg1 harg1 arg2 harg2 arg3 harg3 arg4 harg4 arg5 harg5 arg6 harg6 arg7 harg7 arg8 harg8 arg9 harg9 arg21 arg22 x0 x1 x2 x3 x4 x5 x6 x7 x8) = (pointLoads x1 (xtOf x0) (pOf x2 x3 x4) x5 x6 x7 x8 x9 x10 x11).nb :=
  (show _ = (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).nb from rfl).trans (by rw [rawA_eq])

/-- The new weights, tile 0. -/
theorem wA_0 : (kernelRun0_A.sl.v304 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 0 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 0) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 0) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The new weights, tile 1. -/
theorem wA_1 : (kernelRun0_A.sl.v323 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 1 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 1) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 1) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The new weights, tile 2. -/
theorem wA_2 : (kernelRun0_A.sl.v342 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 2 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 2) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 2) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The new weights, tile 3. -/
theorem wA_3 : (kernelRun0_A.sl.v361 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 3 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 3) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 3) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The new weights, tile 4. -/
theorem wA_4 : (kernelRun0_A.sl.v380 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 4 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 4) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 4) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The new weights, tile 5. -/
theorem wA_5 : (kernelRun0_A.sl.v399 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 5 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 5) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 5) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The new weights, tile 6. -/
theorem wA_6 : (kernelRun0_A.sl.v418 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 6 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 6) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 6) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The new weights, tile 7. -/
theorem wA_7 : (kernelRun0_A.sl.v437 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).w 7 :=
  (show _ = wK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) (wcolK (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).ws) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj 7) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).wc 7) from rfl).trans (by
    rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl)

/-- The largest magnitudes of the new weights, lane by lane. -/
theorem accA : (kernelRun0_A.sl.v445 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).acc :=
  (show _ = (amaxK (amaxK (amaxK (amaxK (amaxK (amaxK (amaxK (amaxK (broadcast S256x128 (Scalar.ofBits .f32 0x00000000#32 : F .f32)) (kernelRun0_A.sl.v304 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) (kernelRun0_A.sl.v323 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) (kernelRun0_A.sl.v342 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) (kernelRun0_A.sl.v361 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) (kernelRun0_A.sl.v380 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) (kernelRun0_A.sl.v399 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) (kernelRun0_A.sl.v418 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) (kernelRun0_A.sl.v437 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)) from rfl).trans (by
    rw [wA_0 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_1 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_2 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_3 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_4 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_5 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_6 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_7 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11]; rfl)

/-- The new weight scales. -/
theorem scaleA : (kernelRun0_A.sl.v453 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = wscaleK (pointLoads x1 (xtOf x0) (pOf x2 x3 x4) x5 x6 x7 x8 x9 x10 x11).acc :=
  (show _ = wscaleK (kernelRun0_A.sl.v445 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) from rfl).trans (by rw [accA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11])

/-- Their inverses. -/
theorem invA : (kernelRun0_A.sl.v462 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = (pointLoads x1 (xtOf x0) (pOf x2 x3 x4) x5 x6 x7 x8 x9 x10 x11).inv :=
  (show _ = invK (kernelRun0_A.sl.v453 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) from rfl).trans (by rw [scaleA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11]; rfl)

set_option maxHeartbeats 4000000 in
/-- The stores of the new weights in the third scratch. -/
theorem storeA : (kernelRun0_A.sl.HS2_8 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) = wTiles (F := F) (e := .f32) (pointLoads x1 (xtOf x0) (pOf x2 x3 x4) x5 x6 x7 x8 x9 x10 x11).wStore :=
  (show _ = ([⟨wTile 7, shapeCast S256x256 (kernelRun0_A.sl.v437 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩, ⟨wTile 6, shapeCast S256x256 (kernelRun0_A.sl.v418 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩, ⟨wTile 5, shapeCast S256x256 (kernelRun0_A.sl.v399 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩, ⟨wTile 4, shapeCast S256x256 (kernelRun0_A.sl.v380 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩, ⟨wTile 3, shapeCast S256x256 (kernelRun0_A.sl.v361 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩, ⟨wTile 2, shapeCast S256x256 (kernelRun0_A.sl.v342 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩, ⟨wTile 1, shapeCast S256x256 (kernelRun0_A.sl.v323 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩, ⟨wTile 0, shapeCast S256x256 (kernelRun0_A.sl.v304 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) shapeCasts_S256x256_S256x256⟩] : List (View.Piece (Elt F) S256x2048 .f32)) from rfl).trans (by
    rw [wA_0 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_1 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_2 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_3 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_4 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_5 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_6 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, wA_7 c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11]; rfl)

end Cert.KernelIdeal.Blocks

end
-- ==== Proof.OutsA.lean ====
/- What the first grid point leaves in its outputs. -/
module

public import proofs.«01_k».proof.Proof.Gen.KernelIdeal.Frame
public import proofs.«01_k».proof.Proof.WordsA

@[expose] public section

set_option maxRecDepth 16384

noncomputable section

namespace Cert.KernelIdeal.Blocks

open Idealize.ShloMosaic Idealize.ShloMosaic.TcCoe Idealize.ShloMosaic.Tactic
open Cert.KernelIdeal.Gen

variable {F : FTy → Type} [FloatOps F] [Named F]

set_option maxHeartbeats 4000000 in
/-- In output 1, the dithered weight codes. -/
theorem out_A_12 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out12 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (wTiles (F := F) (e := .i8) (fun j => wcodeK (kernelRun0_A.sl.v462 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) (arg23.view.readCov (kernelRun0_A.sl.HS2_8 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10) (wTile j).toLoadRect) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).sr j))) from rfl).trans ?_
  rw [invA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, storeA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]
  simp only [View.readCov_eq_canon']
  rfl

set_option maxHeartbeats 4000000 in
/-- In output 2, the new weight scales. -/
theorem out_A_13 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out13 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (([⟨Rect.unit ![0, 0] S1x256.size inb_S1x256_S1x256_0_0, wsrowK (kernelRun0_A.sl.v453 c arg1 harg1 arg2 harg2 arg3 harg3 arg4 harg4 arg5 harg5 arg6 harg6 arg7 harg7 arg8 harg8 arg9 harg9 arg10 harg10 arg11 harg11 arg21 arg22 x0 x1 x2 x3 x4 x5 x6 x7 x8 x9 x10)⟩] : List (View.Piece (Elt F) S1x256 .f32))) from rfl).trans ?_
  rw [scaleA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11]; rfl

set_option maxHeartbeats 4000000 in
/-- In output 3, the update. -/
theorem out_A_14 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out14 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (wTiles (F := F) (e := .f32) (fun j => deltaK (kernelRun0_A.sl.v286 c arg1 harg1 arg2 harg2 arg3 harg3 arg4 harg4 arg5 harg5 arg6 harg6 arg7 harg7 arg8 harg8 arg9 harg9 arg21 arg22 x0 x1 x2 x3 x4 x5 x6 x7 x8) ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).pj j))) from rfl).trans ?_
  rw [nbA c arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11, rawA_eq]; rfl

set_option maxHeartbeats 4000000 in
/-- In output 4, the step direction. -/
theorem out_A_15 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out15 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (gTiles (F := F) (e := .f32) (rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).n) from rfl).trans ?_
  rw [rawA_eq]; rfl

set_option maxHeartbeats 4000000 in
/-- In output 5, the codes of the first moment. -/
theorem out_A_16 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out16 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (gTiles (F := F) (e := .i8) (fun g => codeK ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).m g))) from rfl).trans ?_
  rw [rawA_eq]; rfl

set_option maxHeartbeats 4000000 in
/-- In output 6, the scales of the first moment. -/
theorem out_A_17 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out17 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (sTiles (F := F) (e := .f32) (fun g => scaleK ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).m g))) from rfl).trans ?_
  rw [rawA_eq]; rfl

set_option maxHeartbeats 4000000 in
/-- In output 7, the codes of the second moment. -/
theorem out_A_18 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out18 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (gTiles (F := F) (e := .i8) (fun g => codeK ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).v g))) from rfl).trans ?_
  rw [rawA_eq]; rfl

set_option maxHeartbeats 4000000 in
/-- In output 8, the scales of the second moment. -/
theorem out_A_19 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = (pointLoads x1 (xtOf x0) (pOf x2 x3 x4) x5 x6 x7 x8 x9 x10 x11).out19 := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (sTiles (F := F) (e := .f32) (fun g => scaleK ((rawA arg1 harg1 arg2 harg2 arg3 harg3 arg4 harg4 arg5 harg5 arg6 harg6 arg7 harg7 arg8 harg8 arg9 harg9 arg10 harg10 arg11 harg11 arg12 harg12 arg21 arg22 x0 x1 x2 x3 x4 x5 x6 x7 x8 x9 x10 x11).v g))) from rfl).trans ?_
  rw [rawA_eq]; rfl

set_option maxHeartbeats 4000000 in
/-- In scratch 1, the transposed activations. -/
theorem scr_A_0 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = xtOf x0 := by
  have e_arg1 : (fun r : Rect S256x2048 => View.readAt (Elt F) arg1.view r.toLoadRect (harg1.unread x0)) = View.ld x0 := funext fun r => by rw [View.readAt_eq_ld, harg1.read_unread]
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (xtPieces (fun r : Rect S256x2048 => View.readAt (Elt F) arg1.view r.toLoadRect (harg1.unread x0))) from rfl).trans ?_
  rw [e_arg1]
  rfl

set_option maxHeartbeats 4000000 in
/-- In scratch 2, the dequantized projector. -/
theorem scr_A_1 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = pOf x2 x3 x4 := by
  have e_arg3 : (fun r : Rect S384x1024 => View.readAt (Elt F) arg3.view r.toLoadRect (harg3.unread x2)) = View.ld x2 := funext fun r => by rw [View.readAt_eq_ld, harg3.read_unread]
  have e_arg4 : (fun r : Rect S384x8 => View.readAt (Elt F) arg4.view r.toLoadRect (harg4.unread x3)) = View.ld x3 := funext fun r => by rw [View.readAt_eq_ld, harg4.read_unread]
  have e_arg5 : (fun r : Rect S384x8 => View.readAt (Elt F) arg5.view r.toLoadRect (harg5.unread x4)) = View.ld x4 := funext fun r => by rw [View.readAt_eq_ld, harg5.read_unread]
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  refine (show _ = View.canon (pTiles (F := F) (e := .bf16) (projTile (fun r : Rect S384x1024 => View.readAt (Elt F) arg3.view r.toLoadRect (harg3.unread x2)) (fun r : Rect S384x8 => View.readAt (Elt F) arg4.view r.toLoadRect (harg4.unread x3)) (fun r : Rect S384x8 => View.readAt (Elt F) arg5.view r.toLoadRect (harg5.unread x4)))) from rfl).trans ?_
  rw [e_arg3, e_arg4, e_arg5]
  rfl

end Cert.KernelIdeal.Blocks

end
-- ==== Proof.WordsB.lean ====
/- The values a grid point after the first computes, named: each is the block function of its loads. -/
module

public import proofs.«01_k».proof.Proof.Gen.KernelIdeal.Frame
public import proofs.«01_k».proof.Proof.Point

@[expose] public section

set_option maxRecDepth 16384

noncomputable section

namespace Cert.KernelIdeal.Blocks

open Idealize.ShloMosaic Idealize.ShloMosaic.TcCoe Idealize.ShloMosaic.Tactic
open Cert.KernelIdeal.Gen

variable {F : FTy → Type} [FloatOps F] [Named F]

variable (c : Dev nD) (arg2 : Memref sig .tc .vmem S256x256 .bf16) (harg2 : arg2.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg21 : Memref sig .tc .vmem S2048x256 .bf16) (harg21 : arg21.IsWhole) (arg22 : Memref sig .tc .vmem S384x2048 .bf16) (harg22 : arg22.IsWhole) (x1 : Vec F S256x256 .bf16) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16)

/-- The loads of a grid point after the first, as the run makes them. -/
def rawB : Loads F :=
  mkLoads (fun r : Rect S256x256 => View.readAt (Elt F) arg2.view r.toLoadRect (harg2.unread x1)) (fun r : Rect S2048x256 => View.readAt (Elt F) arg21.view r.toLoadRect (harg21.unread xs0)) (fun r : Rect S384x2048 => View.readAt (Elt F) arg22.view r.toLoadRect (harg22.unread xs1)) (fun r : Rect S256x384 => View.readAt (Elt F) arg6.view r.toLoadRect (harg6.unread x5)) (fun r : Rect S3x256 => View.readAt (Elt F) arg7.view r.toLoadRect (harg7.unread x6)) (fun r : Rect S256x384 => View.readAt (Elt F) arg8.view r.toLoadRect (harg8.unread x7)) (fun r : Rect S3x256 => View.readAt (Elt F) arg9.view r.toLoadRect (harg9.unread x8)) (fun r : Rect S256x2048 => View.readAt (Elt F) arg10.view r.toLoadRect (harg10.unread x9)) (fun r : Rect S1x256 => View.readAt (Elt F) arg11.view r.toLoadRect (harg11.unread x10)) (fun r : Rect S256x2048 => View.readAt (Elt F) arg12.view r.toLoadRect (harg12.unread x11))

/-- They are the loads of what the blocks and the scratches hold. -/
theorem rawB_eq : (rawB arg2 harg2 arg6 harg6 arg7 harg7 arg8 harg8 arg9 harg9 arg10 harg10 arg11 harg11 arg12 harg12 arg21 harg21 arg22 harg22 x1 x5 x6 x7 x8 x9 x10 x11 xs0 xs1) = (pointLoads x1 xs0 xs1 x5 x6 x7 x8 x9 x10 x11) := by
  have e_arg2 : (fun r : Rect S256x256 => View.readAt (Elt F) arg2.view r.toLoadRect (harg2.unread x1)) = View.ld x1 := funext fun r => by rw [View.readAt_eq_ld, harg2.read_unread]
  have e_arg21 : (fun r : Rect S2048x256 => View.readAt (Elt F) arg21.view r.toLoadRect (harg21.unread xs0)) = View.ld xs0 := funext fun r => by rw [View.readAt_eq_ld, harg21.read_unread]
  have e_arg22 : (fun r : Rect S384x2048 => View.readAt (Elt F) arg22.view r.toLoadRect (harg22.unread xs1)) = View.ld xs1 := funext fun r => by rw [View.readAt_eq_ld, harg22.read_unread]
  have e_arg6 : (fun r : Rect S256x384 => View.readAt (Elt F) arg6.view r.toLoadRect (harg6.unread x5)) = View.ld x5 := funext fun r => by rw [View.readAt_eq_ld, harg6.read_unread]
  have e_arg7 : (fun r : Rect S3x256 => View.readAt (Elt F) arg7.view r.toLoadRect (harg7.unread x6)) = View.ld x6 := funext fun r => by rw [View.readAt_eq_ld, harg7.read_unread]
  have e_arg8 : (fun r : Rect S256x384 => View.readAt (Elt F) arg8.view r.toLoadRect (harg8.unread x7)) = View.ld x7 := funext fun r => by rw [View.readAt_eq_ld, harg8.read_unread]
  have e_arg9 : (fun r : Rect S3x256 => View.readAt (Elt F) arg9.view r.toLoadRect (harg9.unread x8)) = View.ld x8 := funext fun r => by rw [View.readAt_eq_ld, harg9.read_unread]
  have e_arg10 : (fun r : Rect S256x2048 => View.readAt (Elt F) arg10.view r.toLoadRect (harg10.unread x9)) = View.ld x9 := funext fun r => by rw [View.readAt_eq_ld, harg10.read_unread]
  have e_arg11 : (fun r : Rect S1x256 => View.readAt (Elt F) arg11.view r.toLoadRect (harg11.unread x10)) = View.ld x10 := funext fun r => by rw [View.readAt_eq_ld, harg11.read_unread]
  have e_arg12 : (fun r : Rect S256x2048 => View.readAt (Elt F) arg12.view r.toLoadRect (harg12.unread x11)) = View.ld x11 := funext fun r => by rw [View.readAt_eq_ld, harg12.read_unread]
  unfold rawB pointLoads
  skip
  rw [e_arg2, e_arg21, e_arg22, e_arg6, e_arg7, e_arg8, e_arg9, e_arg10, e_arg11, e_arg12]

include c arg2 harg2 arg6 harg6 arg7 harg7 arg8 harg8 arg9 harg9 arg10 harg10 arg11 harg11 arg12 harg12 arg21 harg21 arg22 harg22 x1 x5 x6 x7 x8 x9 x10 x11 xs0 xs1

set_option maxHeartbeats 4000000 in
/-- The normalized direction, rounded, of all three groups. -/
theorem nbB : (kernelRun0_B.sl.v286 c arg2 harg2 arg6 harg6 arg7 harg7 arg8 harg8 arg9 harg9 arg21 harg21 arg22 harg22 x1 x5 x6 x7 x8 xs0 xs1) = (pointLoads x1 xs0 xs1 x5 x6 x7 x8 x9 x10 x11).nb :=
  (show _ = (rawB arg2 harg2 arg6 harg6 arg7 harg7 arg8 harg8 arg9 harg9 arg10 harg10 arg11 harg11 arg12 harg12 arg21 harg21 arg22 harg22 x1 x5 x6 x7 x8 x9 x10 x11 xs0 xs1).nb from rfl).trans (by rw [rawB_eq])

/-- The new weights, tile 0. -/
theorem wB_0 : (kernelRun0_B.sl.v304 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 0 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 0) ((rawB arg2 harg2 arg6 harg6 arg7 harg7 arg8 harg8 arg9 harg9 arg10 harg10 arg11 harg11 arg12 harg12 arg21 harg21 arg22 harg22 x1 x5 x6 x7 x8 x9 x10 x11 xs0 xs1).wc 0) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The new weights, tile 1. -/
theorem wB_1 : (kernelRun0_B.sl.v323 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 1 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 1) ((rawB arg2 harg2 arg6 harg6 arg7 harg7 arg8 harg8 arg9 harg9 arg10 harg10 arg11 harg11 arg12 harg12 arg21 harg21 arg22 harg22 x1 x5 x6 x7 x8 x9 x10 x11 xs0 xs1).wc 1) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The new weights, tile 2. -/
theorem wB_2 : (kernelRun0_B.sl.v342 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 2 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 2) ((rawB arg2 harg2 arg6 harg6 arg7 harg7 arg8 harg8 arg9 harg9 arg10 harg10 arg11 harg11 arg12 harg12 arg21 harg21 arg22 harg22 x1 x5 x6 x7 x8 x9 x10 x11 xs0 xs1).wc 2) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The new weights, tile 3. -/
theorem wB_3 : (kernelRun0_B.sl.v361 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 3 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 3) ((rawB arg2 harg2 arg6 harg6 arg7 harg7 arg8 harg8 arg9 harg9 arg10 harg10 arg11 harg11 arg12 harg12 arg21 harg21 arg22 harg22 x1 x5 x6 x7 x8 x9 x10 x11 xs0 xs1).wc 3) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The new weights, tile 4. -/
theorem wB_4 : (kernelRun0_B.sl.v380 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 4 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 4) ((rawB arg2 harg2 arg6 harg6 arg7 harg7 arg8 harg8 arg9 harg9 arg10 harg10 arg11 harg11 arg12 harg12 arg21 harg21 arg22 harg22 x1 x5 x6 x7 x8 x9 x10 x11 xs0 xs1).wc 4) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The new weights, tile 5. -/
theorem wB_5 : (kernelRun0_B.sl.v399 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 5 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 5) ((rawB arg2 harg2 arg6 harg6 arg7 harg7 arg8 harg8 arg9 harg9 arg10 harg10 arg11 harg11 arg12 harg12 arg21 harg21 arg22 harg22 x1 x5 x6 x7 x8 x9 x10 x11 xs0 xs1).wc 5) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The new weights, tile 6. -/
theorem wB_6 : (kernelRun0_B.sl.v418 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 6 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 6) ((rawB arg2 harg2 arg6 harg6 arg7 harg7 arg8 harg8 arg9 harg9 arg10 harg10 arg11 harg11 arg12 harg12 arg21 harg21 arg22 harg22 x1 x5 x6 x7 x8 x9 x10 x11 xs0 xs1).wc 6) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The new weights, tile 7. -/
theorem wB_7 : (kernelRun0_B.sl.v437 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).w 7 :=
  (show _ = wK (kernelRun0_B.sl.v286 c arg2 harg2 arg6 harg6 arg7 harg7 arg8 harg8 arg9 harg9 arg21 harg21 arg22 harg22 x1 x5 x6 x7 x8 xs0 xs1) (wcolK (rawB arg2 harg2 arg6 harg6 arg7 harg7 arg8 harg8 arg9 harg9 arg10 harg10 arg11 harg11 arg12 harg12 arg21 harg21 arg22 harg22 x1 x5 x6 x7 x8 x9 x10 x11 xs0 xs1).ws) ((rawB arg2 harg2 arg6 harg6 arg7 harg7 arg8 harg8 arg9 harg9 arg10 harg10 arg11 harg11 arg12 harg12 arg21 harg21 arg22 harg22 x1 x5 x6 x7 x8 x9 x10 x11 xs0 xs1).pj 7) ((rawB arg2 harg2 arg6 harg6 arg7 harg7 arg8 harg8 arg9 harg9 arg10 harg10 arg11 harg11 arg12 harg12 arg21 harg21 arg22 harg22 x1 x5 x6 x7 x8 x9 x10 x11 xs0 xs1).wc 7) from rfl).trans (by
    rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl)

/-- The largest magnitudes of the new weights, lane by lane. -/
theorem accB : (kernelRun0_B.sl.v445 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).acc :=
  (show _ = (amaxK (amaxK (amaxK (amaxK (amaxK (amaxK (amaxK (amaxK (broadcast S256x128 (Scalar.ofBits .f32 0x00000000#32 : F .f32)) (kernelRun0_B.sl.v304 c arg2 harg2 arg6 harg6 arg7 harg7 arg8 harg8 arg9 harg9 arg10 harg10 arg11 harg11 arg21 harg21 arg22 harg22 x1 x5 x6 x7 x8 x9 x10 xs0 xs1)) (kernelRun0_B.sl.v323 c arg2 harg2 arg6 harg6 arg7 harg7 arg8 harg8 arg9 harg9 arg10 harg10 arg11 harg11 arg21 harg21 arg22 harg22 x1 x5 x6 x7 x8 x9 x10 xs0 xs1)) (kernelRun0_B.sl.v342 c arg2 harg2 arg6 harg6 arg7 harg7 arg8 harg8 arg9 harg9 arg10 harg10 arg11 harg11 arg21 harg21 arg22 harg22 x1 x5 x6 x7 x8 x9 x10 xs0 xs1)) (kernelRun0_B.sl.v361 c arg2 harg2 arg6 harg6 arg7 harg7 arg8 harg8 arg9 harg9 arg10 harg10 arg11 harg11 arg21 harg21 arg22 harg22 x1 x5 x6 x7 x8 x9 x10 xs0 xs1)) (kernelRun0_B.sl.v380 c arg2 harg2 arg6 harg6 arg7 harg7 arg8 harg8 arg9 harg9 arg10 harg10 arg11 harg11 arg21 harg21 arg22 harg22 x1 x5 x6 x7 x8 x9 x10 xs0 xs1)) (kernelRun0_B.sl.v399 c arg2 harg2 arg6 harg6 arg7 harg7 arg8 harg8 arg9 harg9 arg10 harg10 arg11 harg11 arg21 harg21 arg22 harg22 x1 x5 x6 x7 x8 x9 x10 xs0 xs1)) (kernelRun0_B.sl.v418 c arg2 harg2 arg6 harg6 arg7 harg7 arg8 harg8 arg9 harg9 arg10 harg10 arg11 harg11 arg21 harg21 arg22 harg22 x1 x5 x6 x7 x8 x9 x10 xs0 xs1)) (kernelRun0_B.sl.v437 c arg2 harg2 arg6 harg6 arg7 harg7 arg8 harg8 arg9 harg9 arg10 harg10 arg11 harg11 arg21 harg21 arg22 harg22 x1 x5 x6 x7 x8 x9 x10 xs0 xs1)) from rfl).trans (by
    rw [wB_0 c arg2 harg2 arg6 harg6 arg7 harg7 arg8 harg8 arg9 harg9 arg10 harg10 arg11 harg11 arg12 harg12 arg21 harg21 arg22 harg22 x1 x5 x6 x7 x8 x9 x10 x11 xs0 xs1, wB_1 c arg2 harg2 arg6 harg6 arg7 harg7 arg8 harg8 arg9 harg9 arg10 harg10 arg11 harg11 arg12 harg12 arg21 harg21 arg22 harg22 x1 x5 x6 x7 x8 x9 x10 x11 xs0 xs1, wB_2 c arg2 harg2 arg6 harg6 arg7 harg7 arg8 harg8 arg9 harg9 arg10 harg10 arg11 harg11 arg12 harg12 arg21 harg21 arg22 harg22 x1 x5 x6 x7 x8 x9 x10 x11 xs0 xs1, wB_3 c arg2 harg2 arg6 harg6 arg7 harg7 arg8 harg8 arg9 harg9 arg10 harg10 arg11 harg11 arg12 harg12 arg21 harg21 arg22 harg22 x1 x5 x6 x7 x8 x9 x10 x11 xs0 xs1, wB_4 c arg2 harg2 arg6 harg6 arg7 harg7 arg8 harg8 arg9 harg9 arg10 harg10 arg11 harg11 arg12 harg12 arg21 harg21 arg22 harg22 x1 x5 x6 x7 x8 x9 x10 x11 xs0 xs1, wB_5 c arg2 harg2 arg6 harg6 arg7 harg7 arg8 harg8 arg9 harg9 arg10 harg10 arg11 harg11 arg12 harg12 arg21 harg21 arg22 harg22 x1 x5 x6 x7 x8 x9 x10 x11 xs0 xs1, wB_6 c arg2 harg2 arg6 harg6 arg7 harg7 arg8 harg8 arg9 harg9 arg10 harg10 arg11 harg11 arg12 harg12 arg21 harg21 arg22 harg22 x1 x5 x6 x7 x8 x9 x10 x11 xs0 xs1, wB_7 c arg2 harg2 arg6 harg6 arg7 harg7 arg8 harg8 arg9 harg9 arg10 harg10 arg11 harg11 arg12 harg12 arg21 harg21 arg22 harg22 x1 x5 x6 x7 x8 x9 x10 x11 xs0 xs1]; rfl)

/-- The new weight scales. -/
theorem scaleB : (kernelRun0_B.sl.v453 c arg2 harg2 arg6 harg6 arg7 harg7 arg8 harg8 arg9 harg9 arg10 harg10 arg11 harg11 arg21 harg21 arg22 harg22 x1 x5 x6 x7 x8 x9 x10 xs0 xs1) = wscaleK (pointLoads x1 xs0 xs1 x5 x6 x7 x8 x9 x10 x11).acc :=
  (show _ = wscaleK (kernelRun0_B.sl.v445 c arg2 harg2 arg6 harg6 arg7 harg7 arg8 harg8 arg9 harg9 arg10 harg10 arg11 harg11 arg21 harg21 arg22 harg22 x1 x5 x6 x7 x8 x9 x10 xs0 xs1) from rfl).trans (by rw [accB c arg2 harg2 arg6 harg6 arg7 harg7 arg8 harg8 arg9 harg9 arg10 harg10 arg11 harg11 arg12 harg12 arg21 harg21 arg22 harg22 x1 x5 x6 x7 x8 x9 x10 x11 xs0 xs1])

/-- Their inverses. -/
theorem invB : (kernelRun0_B.sl.v462 c arg2 harg2 arg6 harg6 arg7 harg7 arg8 harg8 arg9 harg9 arg10 harg10 arg11 harg11 arg21 harg21 arg22 harg22 x1 x5 x6 x7 x8 x9 x10 xs0 xs1) = (pointLoads x1 xs0 xs1 x5 x6 x7 x8 x9 x10 x11).inv :=
  (show _ = invK (kernelRun0_B.sl.v453 c arg2 harg2 arg6 harg6 arg7 harg7 arg8 harg8 arg9 harg9 arg10 harg10 arg11 harg11 arg21 harg21 arg22 harg22 x1 x5 x6 x7 x8 x9 x10 xs0 xs1) from rfl).trans (by rw [scaleB c arg2 harg2 arg6 harg6 arg7 harg7 arg8 harg8 arg9 harg9 arg10 harg10 arg11 harg11 arg12 harg12 arg21 harg21 arg22 harg22 x1 x5 x6 x7 x8 x9 x10 x11 xs0 xs1]; rfl)

set_option maxHeartbeats 4000000 in
/-- The stores of the new weights in the third scratch. -/
theorem storeB : (kernelRun0_B.sl.HS2_8 c arg2 harg2 arg6 harg6 arg7 harg7 arg8 harg8 arg9 harg9 arg10 harg10 arg11 harg11 arg21 harg21 arg22 harg22 x1 x5 x6 x7 x8 x9 x10 xs0 xs1) = wTiles (F := F) (e := .f32) (pointLoads x1 xs0 xs1 x5 x6 x7 x8 x9 x10 x11).wStore :=
  (show _ = ([⟨wTile 7, shapeCast S256x256 (kernelRun0_B.sl.v437 c arg2 harg2 arg6 harg6 arg7 harg7 arg8 harg8 arg9 harg9 arg10 harg10 arg11 harg11 arg21 harg21 arg22 harg22 x1 x5 x6 x7 x8 x9 x10 xs0 xs1) shapeCasts_S256x256_S256x256⟩, ⟨wTile 6, shapeCast S256x256 (kernelRun0_B.sl.v418 c arg2 harg2 arg6 harg6 arg7 harg7 arg8 harg8 arg9 harg9 arg10 harg10 arg11 harg11 arg21 harg21 arg22 harg22 x1 x5 x6 x7 x8 x9 x10 xs0 xs1) shapeCasts_S256x256_S256x256⟩, ⟨wTile 5, shapeCast S256x256 (kernelRun0_B.sl.v399 c arg2 harg2 arg6 harg6 arg7 harg7 arg8 harg8 arg9 harg9 arg10 harg10 arg11 harg11 arg21 harg21 arg22 harg22 x1 x5 x6 x7 x8 x9 x10 xs0 xs1) shapeCasts_S256x256_S256x256⟩, ⟨wTile 4, shapeCast S256x256 (kernelRun0_B.sl.v380 c arg2 harg2 arg6 harg6 arg7 harg7 arg8 harg8 arg9 harg9 arg10 harg10 arg11 harg11 arg21 harg21 arg22 harg22 x1 x5 x6 x7 x8 x9 x10 xs0 xs1) shapeCasts_S256x256_S256x256⟩, ⟨wTile 3, shapeCast S256x256 (kernelRun0_B.sl.v361 c arg2 harg2 arg6 harg6 arg7 harg7 arg8 harg8 arg9 harg9 arg10 harg10 arg11 harg11 arg21 harg21 arg22 harg22 x1 x5 x6 x7 x8 x9 x10 xs0 xs1) shapeCasts_S256x256_S256x256⟩, ⟨wTile 2, shapeCast S256x256 (kernelRun0_B.sl.v342 c arg2 harg2 arg6 harg6 arg7 harg7 arg8 harg8 arg9 harg9 arg10 harg10 arg11 harg11 arg21 harg21 arg22 harg22 x1 x5 x6 x7 x8 x9 x10 xs0 xs1) shapeCasts_S256x256_S256x256⟩, ⟨wTile 1, shapeCast S256x256 (kernelRun0_B.sl.v323 c arg2 harg2 arg6 harg6 arg7 harg7 arg8 harg8 arg9 harg9 arg10 harg10 arg11 harg11 arg21 harg21 arg22 harg22 x1 x5 x6 x7 x8 x9 x10 xs0 xs1) shapeCasts_S256x256_S256x256⟩, ⟨wTile 0, shapeCast S256x256 (kernelRun0_B.sl.v304 c arg2 harg2 arg6 harg6 arg7 harg7 arg8 harg8 arg9 harg9 arg10 harg10 arg11 harg11 arg21 harg21 arg22 harg22 x1 x5 x6 x7 x8 x9 x10 xs0 xs1) shapeCasts_S256x256_S256x256⟩] : List (View.Piece (Elt F) S256x2048 .f32)) from rfl).trans (by
    rw [wB_0 c arg2 harg2 arg6 harg6 arg7 harg7 arg8 harg8 arg9 harg9 arg10 harg10 arg11 harg11 arg12 harg12 arg21 harg21 arg22 harg22 x1 x5 x6 x7 x8 x9 x10 x11 xs0 xs1, wB_1 c arg2 harg2 arg6 harg6 arg7 harg7 arg8 harg8 arg9 harg9 arg10 harg10 arg11 harg11 arg12 harg12 arg21 harg21 arg22 harg22 x1 x5 x6 x7 x8 x9 x10 x11 xs0 xs1, wB_2 c arg2 harg2 arg6 harg6 arg7 harg7 arg8 harg8 arg9 harg9 arg10 harg10 arg11 harg11 arg12 harg12 arg21 harg21 arg22 harg22 x1 x5 x6 x7 x8 x9 x10 x11 xs0 xs1, wB_3 c arg2 harg2 arg6 harg6 arg7 harg7 arg8 harg8 arg9 harg9 arg10 harg10 arg11 harg11 arg12 harg12 arg21 harg21 arg22 harg22 x1 x5 x6 x7 x8 x9 x10 x11 xs0 xs1, wB_4 c arg2 harg2 arg6 harg6 arg7 harg7 arg8 harg8 arg9 harg9 arg10 harg10 arg11 harg11 arg12 harg12 arg21 harg21 arg22 harg22 x1 x5 x6 x7 x8 x9 x10 x11 xs0 xs1, wB_5 c arg2 harg2 arg6 harg6 arg7 harg7 arg8 harg8 arg9 harg9 arg10 harg10 arg11 harg11 arg12 harg12 arg21 harg21 arg22 harg22 x1 x5 x6 x7 x8 x9 x10 x11 xs0 xs1, wB_6 c arg2 harg2 arg6 harg6 arg7 harg7 arg8 harg8 arg9 harg9 arg10 harg10 arg11 harg11 arg12 harg12 arg21 harg21 arg22 harg22 x1 x5 x6 x7 x8 x9 x10 x11 xs0 xs1, wB_7 c arg2 harg2 arg6 harg6 arg7 harg7 arg8 harg8 arg9 harg9 arg10 harg10 arg11 harg11 arg12 harg12 arg21 harg21 arg22 harg22 x1 x5 x6 x7 x8 x9 x10 x11 xs0 xs1]; rfl)

end Cert.KernelIdeal.Blocks

end
-- ==== Proof.OutsB.lean ====
/- What a grid point after the first leaves in its outputs. -/
module

public import proofs.«01_k».proof.Proof.Gen.KernelIdeal.Frame
public import proofs.«01_k».proof.Proof.WordsB

@[expose] public section

set_option maxRecDepth 16384

noncomputable section

namespace Cert.KernelIdeal.Blocks

open Idealize.ShloMosaic Idealize.ShloMosaic.TcCoe Idealize.ShloMosaic.Tactic
open Cert.KernelIdeal.Gen

variable {F : FTy → Type} [FloatOps F] [Named F]

set_option maxHeartbeats 4000000 in
/-- In output 1, the dithered weight codes. -/
theorem out_B_12 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (wTiles (F := F) (e := .i8) (fun j => wcodeK (kernelRun0_B.sl.v462 c arg2 harg2 arg6 harg6 arg7 harg7 arg8 harg8 arg9 harg9 arg10 harg10 arg11 harg11 arg21 harg21 arg22 harg22 x1 x5 x6 x7 x8 x9 x10 xs0 xs1) (arg23.view.readCov (kernelRun0_B.sl.HS2_8 c arg2 harg2 arg6 harg6 arg7 harg7 arg8 harg8 arg9 harg9 arg10 harg10 arg11 harg11 arg21 harg21 arg22 harg22 x1 x5 x6 x7 x8 x9 x10 xs0 xs1) (wTile j).toLoadRect) ((rawB arg2 harg2 arg6 harg6 arg7 harg7 arg8 harg8 arg9 harg9 arg10 harg10 arg11 harg11 arg12 harg12 arg21 harg21 arg22 harg22 x1 x5 x6 x7 x8 x9 x10 x11 xs0 xs1).sr j))) from rfl).trans ?_
  rw [invB c arg2 harg2 arg6 harg6 arg7 harg7 arg8 harg8 arg9 harg9 arg10 harg10 arg11 harg11 arg12 harg12 arg21 harg21 arg22 harg22 x1 x5 x6 x7 x8 x9 x10 x11 xs0 xs1, storeB c arg2 harg2 arg6 harg6 arg7 harg7 arg8 harg8 arg9 harg9 arg10 harg10 arg11 harg11 arg12 harg12 arg21 harg21 arg22 harg22 x1 x5 x6 x7 x8 x9 x10 x11 xs0 xs1, rawB_eq]
  simp only [View.readCov_eq_canon']
  rfl

set_option maxHeartbeats 4000000 in
/-- In output 2, the new weight scales. -/
theorem out_B_13 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (([⟨Rect.unit ![0, 0] S1x256.size inb_S1x256_S1x256_0_0, wsrowK (kernelRun0_B.sl.v453 c arg2 harg2 arg6 harg6 arg7 harg7 arg8 harg8 arg9 harg9 arg10 harg10 arg11 harg11 arg21 harg21 arg22 harg22 x1 x5 x6 x7 x8 x9 x10 xs0 xs1)⟩] : List (View.Piece (Elt F) S1x256 .f32))) from rfl).trans ?_
  rw [scaleB c arg2 harg2 arg6 harg6 arg7 harg7 arg8 harg8 arg9 harg9 arg10 harg10 arg11 harg11 arg12 harg12 arg21 harg21 arg22 harg22 x1 x5 x6 x7 x8 x9 x10 x11 xs0 xs1]; rfl

set_option maxHeartbeats 4000000 in
/-- In output 3, the update. -/
theorem out_B_14 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (wTiles (F := F) (e := .f32) (fun j => deltaK (kernelRun0_B.sl.v286 c arg2 harg2 arg6 harg6 arg7 harg7 arg8 harg8 arg9 harg9 arg21 harg21 arg22 harg22 x1 x5 x6 x7 x8 xs0 xs1) ((rawB arg2 harg2 arg6 harg6 arg7 harg7 arg8 harg8 arg9 harg9 arg10 harg10 arg11 harg11 arg12 harg12 arg21 harg21 arg22 harg22 x1 x5 x6 x7 x8 x9 x10 x11 xs0 xs1).pj j))) from rfl).trans ?_
  rw [nbB c arg2 harg2 arg6 harg6 arg7 harg7 arg8 harg8 arg9 harg9 arg10 harg10 arg11 harg11 arg12 harg12 arg21 harg21 arg22 harg22 x1 x5 x6 x7 x8 x9 x10 x11 xs0 xs1, rawB_eq]; rfl

set_option maxHeartbeats 4000000 in
/-- In output 4, the step direction. -/
theorem out_B_15 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (gTiles (F := F) (e := .f32) (rawB arg2 harg2 arg6 harg6 arg7 harg7 arg8 harg8 arg9 harg9 arg10 harg10 arg11 harg11 arg12 harg12 arg21 harg21 arg22 harg22 x1 x5 x6 x7 x8 x9 x10 x11 xs0 xs1).n) from rfl).trans ?_
  rw [rawB_eq]; rfl

set_option maxHeartbeats 4000000 in
/-- In output 5, the codes of the first moment. -/
theorem out_B_16 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (gTiles (F := F) (e := .i8) (fun g => codeK ((rawB arg2 harg2 arg6 harg6 arg7 harg7 arg8 harg8 arg9 harg9 arg10 harg10 arg11 harg11 arg12 harg12 arg21 harg21 arg22 harg22 x1 x5 x6 x7 x8 x9 x10 x11 xs0 xs1).m g))) from rfl).trans ?_
  rw [rawB_eq]; rfl

set_option maxHeartbeats 4000000 in
/-- In output 6, the scales of the first moment. -/
theorem out_B_17 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out17 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (sTiles (F := F) (e := .f32) (fun g => scaleK ((rawB arg2 harg2 arg6 harg6 arg7 harg7 arg8 harg8 arg9 harg9 arg10 harg10 arg11 harg11 arg12 harg12 arg21 harg21 arg22 harg22 x1 x5 x6 x7 x8 x9 x10 x11 xs0 xs1).m g))) from rfl).trans ?_
  rw [rawB_eq]; rfl

set_option maxHeartbeats 4000000 in
/-- In output 7, the codes of the second moment. -/
theorem out_B_18 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out18 := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (gTiles (F := F) (e := .i8) (fun g => codeK ((rawB arg2 harg2 arg6 harg6 arg7 harg7 arg8 harg8 arg9 harg9 arg10 harg10 arg11 harg11 arg12 harg12 arg21 harg21 arg22 harg22 x1 x5 x6 x7 x8 x9 x10 x11 xs0 xs1).v g))) from rfl).trans ?_
  rw [rawB_eq]; rfl

set_option maxHeartbeats 4000000 in
/-- In output 8, the scales of the second moment. -/
theorem out_B_19 (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S384x1024 .i8) (harg3 : arg3.IsWhole) (arg4 : Memref sig .tc .vmem S384x8 .f32) (harg4 : arg4.IsWhole) (arg5 : Memref sig .tc .vmem S384x8 .f32) (harg5 : arg5.IsWhole) (arg6 : Memref sig .tc .vmem S256x384 .i8) (harg6 : arg6.IsWhole) (arg7 : Memref sig .tc .vmem S3x256 .f32) (harg7 : arg7.IsWhole) (arg8 : Memref sig .tc .vmem S256x384 .i8) (harg8 : arg8.IsWhole) (arg9 : Memref sig .tc .vmem S3x256 .f32) (harg9 : arg9.IsWhole) (arg10 : Memref sig .tc .vmem S256x2048 .i8) (harg10 : arg10.IsWhole) (arg11 : Memref sig .tc .vmem S1x256 .f32) (harg11 : arg11.IsWhole) (arg12 : Memref sig .tc .vmem S256x2048 .i8) (harg12 : arg12.IsWhole) (arg13 : Memref sig .tc .vmem S256x2048 .i8) (harg13 : arg13.IsWhole) (arg14 : Memref sig .tc .vmem S1x256 .f32) (harg14 : arg14.IsWhole) (arg15 : Memref sig .tc .vmem S256x2048 .f32) (harg15 : arg15.IsWhole) (arg16 : Memref sig .tc .vmem S256x384 .f32) (harg16 : arg16.IsWhole) (arg17 : Memref sig .tc .vmem S256x384 .i8) (harg17 : arg17.IsWhole) (arg18 : Memref sig .tc .vmem S3x256 .f32) (harg18 : arg18.IsWhole) (arg19 : Memref sig .tc .vmem S256x384 .i8) (harg19 : arg19.IsWhole) (arg20 : Memref sig .tc .vmem S3x256 .f32) (harg20 : arg20.IsWhole) (arg21 : Memref sig .tc .vmem S2048x256 .bf16) (harg21 : arg21.IsWhole) (arg22 : Memref sig .tc .vmem S384x2048 .bf16) (harg22 : arg22.IsWhole) (arg23 : Memref sig .tc .vmem S256x2048 .f32) (harg23 : arg23.IsWhole) (hc0 : ¬cond0_0 i) (x0 : Vec F S256x2048 .bf16) (x1 : Vec F S256x256 .bf16) (x2 : Vec F S384x1024 .i8) (x3 : Vec F S384x8 .f32) (x4 : Vec F S384x8 .f32) (x5 : Vec F S256x384 .i8) (x6 : Vec F S3x256 .f32) (x7 : Vec F S256x384 .i8) (x8 : Vec F S3x256 .f32) (x9 : Vec F S256x2048 .i8) (x10 : Vec F S1x256 .f32) (x11 : Vec F S256x2048 .i8) (xs0 : Vec F S2048x256 .bf16) (xs1 : Vec F S384x2048 .bf16) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1 = (pointLoads x1 xs0 xs1 x5 x6 x7 x8 x9 x10 x11).out19 := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 xs1)]
  unfold kernelRun0_B
  dsimp only
  refine (show _ = View.canon (sTiles (F := F) (e := .f32) (fun g => scaleK ((rawB arg2 harg2 arg6 harg6 arg7 harg7 arg8 harg8 arg9 harg9 arg10 harg10 arg11 harg11 arg12 harg12 arg21 harg21 arg22 harg22 x1 x5 x6 x7 x8 x9 x10 x11 xs0 xs1).v g))) from rfl).trans ?_
  rw [rawB_eq]; rfl

end Cert.KernelIdeal.Blocks

end
-- ==== Proof.Every.lean ====
/- What every grid point leaves: the block functions of the point's own blocks and of the two scratches, which hold from
   the first point on the transposed activations and the dequantized projector. -/
module

public import proofs.«01_k».proof.Proof.OutsA
public import proofs.«01_k».proof.Proof.OutsB
public import proofs.«01_k».proof.Proof.Gen.KernelIdeal.Value

@[expose] public section

set_option maxRecDepth 16384

noncomputable section

namespace Cert.KernelIdeal.Blocks

open Idealize.ShloMosaic Idealize.ShloMosaic.TcCoe Idealize.ShloMosaic.Tactic Idealize.SL.Sem
open Cert.KernelIdeal.Gen

variable {F : FTy → Type} [FloatOps F] [Named F]
variable (m : (ℓ : Loc nD τ sig) → Buf (Elt F) ℓ)

/-- The first grid point. -/
def t0 : Fin cfg0.N := ⟨0, lt_of_lt_of_eq (by omega) N_0.symm⟩

/-- The transposed activations. -/
def xtArr (c : Dev nD) : Vec F S2048x256 .bf16 := xtOf (iblk m c 0 t0)

/-- The dequantized projector. -/
def pArr (c : Dev nD) : Vec F S384x2048 .bf16 := pOf (iblk m c 2 t0) (iblk m c 3 t0) (iblk m c 4 t0)

/-- What point `t` loads. -/
def ptLoads (c : Dev nD) (t : Fin cfg0.N) : Loads F :=
  pointLoads (iblk m c 1 t) (xtArr m c) (pArr m c) (iblk m c 5 t) (iblk m c 6 t) (iblk m c 7 t) (iblk m c 8 t)
    (iblk m c 9 t) (iblk m c 10 t) (iblk m c 11 t)

/-- The only point of the first kind is the first one. -/
theorem eq_t0 (t : Fin cfg0.N) (h : t.val % 22 = 0) : t = t0 := by
  have h2 : t.val < 22 := lt_of_lt_of_eq t.isLt N_0
  apply Fin.ext
  show t.val = 0
  omega

set_option maxHeartbeats 4000000 in
/-- The two scratches after point `n`. -/
theorem scr_eq (c : Dev nD) : ∀ (n : ℕ) (hn : n < cfg0.N),
    (outsAt0 m c n hn).2.2.2.2.2.2.2.2 = (xtArr m c, pArr m c) := by
  intro n
  induction n with
  | zero =>
    intro hn
    rw [outsAt0_A m c ⟨0, hn⟩ rfl, scr_A_0, scr_A_1]
    rfl
  | succ n ih =>
    intro hn
    have h0 : ¬ (⟨n + 1, hn⟩ : Fin cfg0.N).val % 22 = 0 := by
      have h2 : n + 1 < 22 := lt_of_lt_of_eq hn N_0
      show ¬ (n + 1) % 22 = 0
      omega
    rw [outsAt0_B m c ⟨n + 1, hn⟩ h0]
    unfold sout0_B_0 sout0_B_1
    dsimp only
    exact ih (Nat.lt_of_succ_lt hn)

set_option maxHeartbeats 4000000 in
/-- What the outputs hold after point `t`. -/
theorem point_eq (c : Dev nD) (t : Fin cfg0.N) : outsAt0 m c t.val t.isLt
    = ((ptLoads m c t).out12, (ptLoads m c t).out13, (ptLoads m c t).out14, (ptLoads m c t).out15, (ptLoads m c t).out16,
       (ptLoads m c t).out17, (ptLoads m c t).out18, (ptLoads m c t).out19, xtArr m c, pArr m c) := by
  by_cases h0 : t.val % 22 = 0
  · have ht := eq_t0 t h0
    rw [outsAt0_A m c t h0, out_A_12, out_A_13, out_A_14, out_A_15, out_A_16, out_A_17, out_A_18, out_A_19, scr_A_0, scr_A_1]
    subst ht
    rfl
  · have hs := scr_eq m c (t.val - 1) (lt_of_le_of_lt (Nat.sub_le _ _) t.isLt)
    rw [outsAt0_B m c t h0, out_B_12, out_B_13, out_B_14, out_B_15, out_B_16, out_B_17, out_B_18, out_B_19]
    have e0 := congrArg Prod.fst hs
    have e1 := congrArg Prod.snd hs
    dsimp only at e0 e1
    unfold sout0_B_0 sout0_B_1
    rw [e0, e1]
    rfl

end Cert.KernelIdeal.Blocks

end
-- ==== Proof.Kernel.lean ====
/- What one grid point computes, output row by output row: the step of `Spec` on the row's own data. -/
module

public import proofs.«01_k».proof.Proof.Point
public import proofs.«01_k».proof.Proof.Spec

@[expose] public section

set_option maxRecDepth 16384

noncomputable section

namespace Cert.KernelIdeal.Blocks

open Idealize.ShloMosaic Idealize.ShloMosaic.Pointwise
open Cert.KernelIdeal.Gen Cert.Scalars Cert.Spec

/-! ## Loads of tiles -/

theorem ld_wTile {e : EltTy} (x : Vec Ideal S256x2048 e) (j : Fin 8) (c l : Fin 256) :
    View.ld x (wTile j) (ix2 c l) = x (ix2 c (⟨256 * j.val + l.val, by omega⟩ : Fin 2048)) :=
  congrArg x (funext fun a => Fin.ext (match a with
    | ⟨0, _⟩ => (wTile_emb j _).1
    | ⟨1, _⟩ => (wTile_emb j _).2))

theorem ld_pTile {e : EltTy} (x : Vec Ideal S384x2048 e) (j : Fin 8) (k : Fin 384) (l : Fin 256) :
    View.ld x (pTile j) (ix2 k l) = x (ix2 k (⟨256 * j.val + l.val, by omega⟩ : Fin 2048)) :=
  congrArg x (funext fun a => Fin.ext (match a with
    | ⟨0, _⟩ => (pTile_emb j _).1
    | ⟨1, _⟩ => (pTile_emb j _).2))

theorem ld_gTile {e : EltTy} (x : Vec Ideal S256x384 e) (g : Fin 3) (c : Fin 256) (l : Fin 128) :
    View.ld x (gTile g) (ix2 c l) = x (ix2 c (at_ g l)) :=
  congrArg x (funext fun a => Fin.ext (match a with
    | ⟨0, _⟩ => (gTile_emb g _).1
    | ⟨1, _⟩ => (gTile_emb g _).2))

theorem ld_sTile {e : EltTy} (x : Vec Ideal S3x256 e) (g : Fin 3) (c : Fin 256) :
    View.ld x (sTile g) (ix2 0 c) = x (ix2 g c) :=
  congrArg x (funext fun a => Fin.ext (match a with
    | ⟨0, _⟩ => ((sTile_emb g _).1.trans (by show 1 * g.val + 0 = g.val; omega))
    | ⟨1, _⟩ => (sTile_emb g _).2))

/-! ## The block functions at an index -/

section blocks

theorem rK_at (xt : Vec Ideal S2048x256 .bf16) (dy : Vec Ideal S256x256 .bf16) (p : Vec Ideal S384x2048 .bf16)
    (k : Fin 384) (c : Fin 256) :
    rK xt dy p (ix2 k c) = ∑ d : Fin 2048, p (ix2 k d) * ∑ s : Fin 256, xt (ix2 d s) * dy (ix2 s c) := by
  pointwise [rK]

theorem mK_at (r : FVec Ideal S128x256 .f32) (mc : Vec Ideal S256x128 .i8) (ms : Vec Ideal S1x256 .f32) (l : Fin 128)
    (c : Fin 256) :
    mK r mc ms (ix2 l c) = Ideal.ofBits .f32 0x3F666666#32 * (num (mc (ix2 c l)) * ms (ix2 0 c))
      + Ideal.ofBits .f32 0x3DCCCCCD#32 * r (ix2 l c) := by
  pointwise [mK, codesK, timesK]
  exact congrArg (· + _) (mul_left_comm (num (mc (ix2 c l))) _ _)

theorem vK_at (r : FVec Ideal S128x256 .f32) (mc : Vec Ideal S256x128 .i8) (ms : Vec Ideal S1x256 .f32) (l : Fin 128)
    (c : Fin 256) :
    vK r mc ms (ix2 l c) = Ideal.ofBits .f32 0x3F7FBE77#32 * (num (mc (ix2 c l)) * ms (ix2 0 c))
      + Ideal.ofBits .f32 0x3A83126F#32 * r (ix2 l c) * r (ix2 l c) := by
  pointwise [vK, codesK, timesK]
  exact congrArg (· + _) (mul_left_comm (num (mc (ix2 c l))) _ _)

theorem nK_at (m v : FVec Ideal S128x256 .f32) (l : Fin 128) (c : Fin 256) (h : Good (v (ix2 l c))) :
    nK m v (ix2 c l) = dirOf (m (ix2 l c)) (v (ix2 l c)) := by
  rw [← kernel_dir _ _ h, lit_one]
  pointwise [nK, vbK]
  rfl

theorem scaleK_at (a : FVec Ideal S128x256 .f32) (c : Fin 256) :
    scaleK a (ix2 0 c) = scaleOf (top fun l => a (ix2 l c)) := by
  pointwise [scaleK, scaleOf]
  rfl

theorem codeK_at (a : FVec Ideal S128x256 .f32) (l : Fin 128) (c : Fin 256) :
    codeK a (ix2 c l) = codeOf (a (ix2 l c)) (scaleOf (top fun l => a (ix2 l c))) := by
  rw [← kernel_code, ← scaleK_at, lit_one]
  pointwise [codeK]
  rfl

theorem nbK_at (n : Fin 3 → FVec Ideal S256x128 .f32) (c : Fin 256) (g : Fin 3) (l : Fin 128) :
    nbK (n 0) (n 1) (n 2) (ix2 c (at_ g l)) = n g (ix2 c l) := by
  have hl := l.isLt
  pointwise [nbK, at_]
  match g with
  | ⟨0, _⟩ =>
    rw [dif_pos (by show 128 * 0 + l.val < 128; omega)]
    exact congrArg (fun y => n 0 (ix2 c y)) (Fin.ext (by show 128 * 0 + l.val = _; omega))
  | ⟨1, _⟩ =>
    rw [dif_neg (by show ¬ 128 * 1 + l.val < 128; omega), dif_pos (by show 128 * 1 + l.val - 128 < 128; omega)]
    exact congrArg (fun y => n 1 (ix2 c y)) (Fin.ext (by show 128 * 1 + l.val - 128 = _; omega))
  | ⟨2, _⟩ =>
    rw [dif_neg (by show ¬ 128 * 2 + l.val < 128; omega), dif_neg (by show ¬ 128 * 2 + l.val - 128 < 128; omega)]
    exact congrArg (fun y => n 2 (ix2 c y)) (Fin.ext (by show 128 * 2 + l.val - 128 - 128 = _; omega))

theorem wcolK_at (ws : Vec Ideal S1x256 .f32) (c : Fin 256) : wcolK ws (ix2 c 0) = ws (ix2 0 c) := by
  pointwise [wcolK]

theorem deltaK_at (nb : FVec Ideal S256x384 .bf16) (p : Vec Ideal S384x256 .bf16) (c l : Fin 256) :
    deltaK nb p (ix2 c l) = Ideal.ofBits .f32 0x3A83126F#32 * ∑ k : Fin 384, nb (ix2 c k) * p (ix2 k l) := by
  pointwise [deltaK]

theorem wK_at (nb : FVec Ideal S256x384 .bf16) (ws : Vec Ideal S1x256 .f32) (wc : Vec Ideal S256x256 .i8)
    (p : Vec Ideal S384x256 .bf16) (c l : Fin 256) :
    wK nb (wcolK ws) p wc (ix2 c l) = num (wc (ix2 c l)) * ws (ix2 0 c) - deltaK nb p (ix2 c l) := by
  pointwise [wK]
  rw [wcolK_at]
  rfl

theorem amaxK_at (acc : FVec Ideal S256x128 .f32) (w : FVec Ideal S256x256 .f32) (c : Fin 256) (l : Fin 128) :
    amaxK acc w (ix2 c l) = max (acc (ix2 c l)) (max
      (max (w (ix2 c (⟨l.val, by omega⟩ : Fin 256))) (-(w (ix2 c (⟨l.val, by omega⟩ : Fin 256)))))
      (max (w (ix2 c (⟨128 + l.val, by omega⟩ : Fin 256))) (-(w (ix2 c (⟨128 + l.val, by omega⟩ : Fin 256)))))) := by
  pointwise [amaxK]
  rfl

theorem wscaleK_at (acc : FVec Ideal S256x128 .f32) (c : Fin 256) :
    wscaleK acc (ix2 c 0)
      = scaleOf (Finset.univ.fold max (Ideal.ofBits .f32 0xFF800000#32) fun l : Fin 128 => acc (ix2 c l)) := by
  pointwise [wscaleK, scaleOf]

theorem wsrowK_at (s : FVec Ideal S256x1 .f32) (c : Fin 256) : wsrowK s (ix2 0 c) = s (ix2 c 0) := by
  pointwise [wsrowK]

theorem wcodeK_at (s : FVec Ideal S256x1 .f32) (w : Vec Ideal S256x256 .f32) (sr : Vec Ideal S256x256 .i8) (c l : Fin 256) :
    wcodeK (invK s) w sr (ix2 c l)
      = kernelWord (w (ix2 c l) * (Ideal.div (Ideal.ofBits .f32 0x3F800000#32) (s (ix2 c 0)) * Ideal.ofBits .f32 0x4B800000#32))
          (sr (ix2 c l)) := by
  rw [lit_one]
  pointwise [wcodeK, invK, kernelWord]
  rfl

end blocks

/-! ## The largest magnitude of a row, by lanes -/

theorem le_fold_max {n : ℕ} (b : EReal) (f : Fin n → EReal) (k : Fin n) : f k ≤ Finset.univ.fold max b f :=
  (Finset.le_fold_max _).mpr (Or.inr ⟨k, Finset.mem_univ k, le_rfl⟩)

/-- A column from its tile and its place in it. -/
def col (j : Fin 8) (l : Fin 256) : Fin 2048 := ⟨256 * j.val + l.val, by omega⟩

/-- A magnitude is at least zero. -/
theorem mag_nonneg (x : EReal) : 0 ≤ max x (-x) := by
  rcases le_total 0 x with h | h
  · exact le_max_of_le_left h
  · exact le_max_of_le_right (by simpa using EReal.neg_le_neg_iff.mpr h)

/-- The kernel's maximum — started at zero, over eight tiles of two halves, lane by lane, then over the lanes — is the
    largest magnitude of the row. -/
theorem lanes_top (f : Fin 2048 → EReal) (acc : Fin 8 → Fin 128 → EReal)
    (a : Fin 128 → EReal) (lo hi : Fin 8 → Fin 128 → EReal)
    (hlo : ∀ j l, lo j l = max (f (col j ⟨l.val, by omega⟩)) (-f (col j ⟨l.val, by omega⟩)))
    (hhi : ∀ j l, hi j l = max (f (col j ⟨128 + l.val, by omega⟩)) (-f (col j ⟨128 + l.val, by omega⟩)))
    (ha : ∀ l, a l = max (max (max (max (max (max (max (max 0 (max (lo 0 l) (hi 0 l))) (max (lo 1 l) (hi 1 l)))
      (max (lo 2 l) (hi 2 l))) (max (lo 3 l) (hi 3 l))) (max (lo 4 l) (hi 4 l))) (max (lo 5 l) (hi 5 l)))
      (max (lo 6 l) (hi 6 l))) (max (lo 7 l) (hi 7 l))) :
    (Finset.univ.fold max (Ideal.ofBits .f32 0xFF800000#32) a) = top f := by
  have hmem : ∀ d, max (f d) (-f d) ≤ top f := fun d => le_fold_max _ (fun k => max (f k) (-(f k))) d
  have hl : ∀ j l, lo j l ≤ top f := fun j l => (hlo j l).trans_le (hmem _)
  have hh : ∀ j l, hi j l ≤ top f := fun j l => (hhi j l).trans_le (hmem _)
  have h0 : (0 : EReal) ≤ top f := (mag_nonneg _).trans (hmem 0)
  apply le_antisymm
  · refine (Finset.fold_max_le _).mpr ⟨by rw [lit_neginf]; exact bot_le, fun l _ => ?_⟩
    rw [ha l]
    simp only [max_le_iff]
    exact ⟨⟨⟨⟨⟨⟨⟨⟨h0, hl 0 l, hh 0 l⟩, hl 1 l, hh 1 l⟩, hl 2 l, hh 2 l⟩, hl 3 l, hh 3 l⟩, hl 4 l, hh 4 l⟩, hl 5 l, hh 5 l⟩,
      hl 6 l, hh 6 l⟩, hl 7 l, hh 7 l⟩
  · have hj : ∀ (j : Fin 8) l, max (lo j l) (hi j l) ≤ a l := by
      intro j l
      rw [ha l]
      fin_cases j <;> simp only [le_max_iff, le_refl, true_or, or_true, Fin.zero_eta, Fin.mk_one, Fin.reduceFinMk]
    refine (Finset.fold_max_le _).mpr ⟨by rw [lit_neginf]; exact bot_le, fun d _ => ?_⟩
    have hd := d.isLt
    refine le_trans ?_ (le_fold_max _ a ⟨d.val % 256 % 128, by omega⟩)
    refine le_trans ?_ (hj ⟨d.val / 256, by omega⟩ _)
    by_cases hc : d.val % 256 < 128
    · refine le_max_of_le_left (le_of_eq ?_)
      rw [hlo]
      have e : d = col ⟨d.val / 256, by omega⟩ ⟨d.val % 256 % 128, by omega⟩ :=
        Fin.ext (by show d.val = 256 * (d.val / 256) + d.val % 256 % 128; omega)
      exact congrArg (fun z => max (f z) (-f z)) e
    · refine le_max_of_le_right (le_of_eq ?_)
      rw [hhi]
      have e : d = col ⟨d.val / 256, by omega⟩ ⟨128 + d.val % 256 % 128, by omega⟩ :=
        Fin.ext (by show d.val = 256 * (d.val / 256) + (128 + d.val % 256 % 128); omega)
      exact congrArg (fun z => max (f z) (-f z)) e

theorem grp_at (g : Fin 3) (l : Fin 128) : grp (at_ g l) = g :=
  Fin.ext (by show (128 * g.val + l.val) / 128 = g.val; omega)

theorem pos_at (g : Fin 3) (l : Fin 128) : pos (at_ g l) = l :=
  Fin.ext (by show (128 * g.val + l.val) % 128 = l.val; omega)

/-! ## One grid point, row by row -/

section point

variable (dy : Vec Ideal S256x256 .bf16) (xt : Vec Ideal S2048x256 .bf16) (p : Vec Ideal S384x2048 .bf16)
  (mc : Vec Ideal S256x384 .i8) (ms : Vec Ideal S3x256 .f32) (vc : Vec Ideal S256x384 .i8) (vs : Vec Ideal S3x256 .f32)
  (wc : Vec Ideal S256x2048 .i8) (ws : Vec Ideal S1x256 .f32) (sr : Vec Ideal S256x2048 .i8)

/-- Row `c` of a point's blocks. -/
def rowOf (c : Fin 256) : Row where
  dy s := dy (ix2 s c)
  mc k := mc (ix2 c k)
  ms g := ms (ix2 g c)
  vc k := vc (ix2 c k)
  vs g := vs (ix2 g c)
  wc d := wc (ix2 c d)
  ws := ws (ix2 0 c)
  sr d := sr (ix2 c d)

/-- The activations and the projector, as the scratches hold them. -/
def actOf (s : Fin 256) (d : Fin 2048) : EReal := xt (ix2 d s)
def projOf (k : Fin 384) (d : Fin 2048) : EReal := p (ix2 k d)

theorem zero2 : (![0, 0] : Fin 2 → ℕ) = fun _ => 0 := by
  funext a
  fin_cases a <;> rfl

theorem load_dy : (pointLoads (F := Ideal) dy xt p mc ms vc vs wc ws sr).dy = dy := View.ld_unit_zero (S := S256x256) zero2 _ _
theorem load_xt : (pointLoads (F := Ideal) dy xt p mc ms vc vs wc ws sr).xt = xt := View.ld_unit_zero (S := S2048x256) zero2 _ _
theorem load_p : (pointLoads (F := Ideal) dy xt p mc ms vc vs wc ws sr).p = p := View.ld_unit_zero (S := S384x2048) zero2 _ _
theorem load_ws : (pointLoads (F := Ideal) dy xt p mc ms vc vs wc ws sr).ws = ws := View.ld_unit_zero (S := S1x256) zero2 _ _

theorem r_at (g : Fin 3) (l : Fin 128) (c : Fin 256) :
    (pointLoads (F := Ideal) dy xt p mc ms vc vs wc ws sr).r g (ix2 l c) = (rowOf dy mc ms vc vs wc ws sr c).r (actOf xt) (projOf p) (at_ g l) := by
  have e : (pointLoads (F := Ideal) dy xt p mc ms vc vs wc ws sr).r g (ix2 l c) = rK (pointLoads (F := Ideal) dy xt p mc ms vc vs wc ws sr).xt (pointLoads (F := Ideal) dy xt p mc ms vc vs wc ws sr).dy (pointLoads (F := Ideal) dy xt p mc ms vc vs wc ws sr).p (ix2 (at_ g l) c) := by
    pointwise [Loads.r, at_]
  rw [e, rK_at, load_xt, load_dy, load_p]
  rfl

theorem m_at (g : Fin 3) (l : Fin 128) (c : Fin 256) :
    (pointLoads (F := Ideal) dy xt p mc ms vc vs wc ws sr).m g (ix2 l c) = (rowOf dy mc ms vc vs wc ws sr c).m (actOf xt) (projOf p) (at_ g l) := by
  unfold Loads.m
  rw [mK_at, r_at]
  show _ * (num (View.ld mc (gTile g) (ix2 c l)) * View.ld ms (sTile g) (ix2 0 c)) + _ = _
  rw [ld_gTile, ld_sTile]
  unfold Row.m
  rw [grp_at]
  rfl

theorem v_at (g : Fin 3) (l : Fin 128) (c : Fin 256) :
    (pointLoads (F := Ideal) dy xt p mc ms vc vs wc ws sr).v g (ix2 l c) = (rowOf dy mc ms vc vs wc ws sr c).v (actOf xt) (projOf p) (at_ g l) := by
  unfold Loads.v
  rw [vK_at, r_at]
  show _ * (num (View.ld vc (gTile g) (ix2 c l)) * View.ld vs (sTile g) (ix2 0 c)) + _ = _
  rw [ld_gTile, ld_sTile]
  unfold Row.v
  rw [grp_at]
  rfl

theorem n_at (g : Fin 3) (l : Fin 128) (c : Fin 256) (h : Good ((rowOf dy mc ms vc vs wc ws sr c).v (actOf xt) (projOf p) (at_ g l))) :
    (pointLoads (F := Ideal) dy xt p mc ms vc vs wc ws sr).n g (ix2 c l) = (rowOf dy mc ms vc vs wc ws sr c).n (actOf xt) (projOf p) (at_ g l) := by
  unfold Loads.n
  rw [nK_at _ _ _ _ (by rw [v_at]; exact h), m_at, v_at]
  rfl

theorem nb_at (k : Fin 384) (c : Fin 256) (h : (rowOf dy mc ms vc vs wc ws sr c).good (actOf xt) (projOf p)) :
    (pointLoads (F := Ideal) dy xt p mc ms vc vs wc ws sr).nb (ix2 c k) = (rowOf dy mc ms vc vs wc ws sr c).n (actOf xt) (projOf p) k := by
  have e := (nbK_at (pointLoads (F := Ideal) dy xt p mc ms vc vs wc ws sr).n c (grp k) (pos k)).trans
    (n_at dy xt p mc ms vc vs wc ws sr (grp k) (pos k) c (h _))
  rw [at_grp_pos] at e
  exact e

theorem delta_at (j : Fin 8) (c l : Fin 256) (h : (rowOf dy mc ms vc vs wc ws sr c).good (actOf xt) (projOf p)) :
    (pointLoads (F := Ideal) dy xt p mc ms vc vs wc ws sr).delta j (ix2 c l) = (rowOf dy mc ms vc vs wc ws sr c).delta (actOf xt) (projOf p) (col j l) := by
  unfold Loads.delta
  rw [deltaK_at]
  unfold Row.delta
  congr 1
  refine Finset.sum_congr rfl fun k _ => ?_
  rw [nb_at _ _ _ _ _ _ _ _ _ _ k c h]
  exact congrArg ((rowOf dy mc ms vc vs wc ws sr c).n (actOf xt) (projOf p) k * ·) (ld_pTile p j k l)

theorem w_at (j : Fin 8) (c l : Fin 256) (h : (rowOf dy mc ms vc vs wc ws sr c).good (actOf xt) (projOf p)) :
    (pointLoads (F := Ideal) dy xt p mc ms vc vs wc ws sr).w j (ix2 c l) = (rowOf dy mc ms vc vs wc ws sr c).w (actOf xt) (projOf p) (col j l) := by
  unfold Loads.w
  unfold Row.w
  rw [wK_at, load_ws, ← delta_at dy xt p mc ms vc vs wc ws sr j c l h]
  show num (View.ld wc (wTile j) (ix2 c l)) * _ - _ = _
  rw [ld_wTile]
  rfl

theorem scale_at (c : Fin 256) (h : (rowOf dy mc ms vc vs wc ws sr c).good (actOf xt) (projOf p)) :
    wscaleK (pointLoads (F := Ideal) dy xt p mc ms vc vs wc ws sr).acc (ix2 c 0) = (rowOf dy mc ms vc vs wc ws sr c).wScale (actOf xt) (projOf p) := by
  rw [wscaleK_at]
  unfold Row.wScale
  congr 1
  refine lanes_top (fun d => (rowOf dy mc ms vc vs wc ws sr c).w (actOf xt) (projOf p) d) (fun _ _ => 0) _ _ _ (fun _ _ => rfl) (fun _ _ => rfl) fun l => ?_
  unfold Loads.acc
  simp only [amaxK_at, w_at dy xt p mc ms vc vs wc ws sr _ c _ h]
  rw [show (broadcast S256x128 (Scalar.ofBits .f32 0x00000000#32 : Ideal .f32)) (ix2 c l) = (0 : EReal) from by
    pointwise []]

/-! ## The outputs, row by row -/

/-- The tile of a column and its place in it. -/
def tileOf (d : Fin 2048) : Fin 8 := ⟨d.val / 256, by omega⟩
def placeOf (d : Fin 2048) : Fin 256 := ⟨d.val % 256, by omega⟩

theorem col_tile (d : Fin 2048) : col (tileOf d) (placeOf d) = d :=
  Fin.ext (by show 256 * (d.val / 256) + d.val % 256 = d.val; omega)

theorem tiles_at {e : EltTy} (f : Fin 8 → (S256x256).Idx → Elt Ideal e) (c : Fin 256) (d : Fin 2048) :
    View.canon (wTiles f) (ix2 c d) = f (tileOf d) (ix2 c (placeOf d)) :=
  canon_wTiles f _ _ _ rfl (by show d.val = 256 * (d.val / 256) + d.val % 256; omega)

theorem groups_at {e : EltTy} (f : Fin 3 → (S256x128).Idx → Elt Ideal e) (c : Fin 256) (k : Fin 384) :
    View.canon (gTiles f) (ix2 c k) = f (grp k) (ix2 c (pos k)) :=
  canon_gTiles f _ _ _ rfl (by show k.val = 128 * (k.val / 128) + k.val % 128; omega)

theorem rows_at {e : EltTy} (f : Fin 3 → (S1x256).Idx → Elt Ideal e) (g : Fin 3) (c : Fin 256) :
    View.canon (sTiles f) (ix2 g c) = f g (ix2 0 c) :=
  canon_sTiles f _ _ _ (by show g.val = 1 * g.val + 0; omega) rfl

/-- The update of a row on which the square root is exact. -/
theorem out14_at (c : Fin 256) (d : Fin 2048) (h : (rowOf dy mc ms vc vs wc ws sr c).good (actOf xt) (projOf p)) :
    (pointLoads (F := Ideal) dy xt p mc ms vc vs wc ws sr).out14 (ix2 c d) = (rowOf dy mc ms vc vs wc ws sr c).delta (actOf xt) (projOf p) d := by
  unfold Loads.out14
  rw [tiles_at, delta_at _ _ _ _ _ _ _ _ _ _ _ _ _ h, col_tile]

/-- The new weights of a row on which the square root is exact. -/
theorem wArr_at (c : Fin 256) (d : Fin 2048) (h : (rowOf dy mc ms vc vs wc ws sr c).good (actOf xt) (projOf p)) :
    (pointLoads (F := Ideal) dy xt p mc ms vc vs wc ws sr).wArr (ix2 c d) = (rowOf dy mc ms vc vs wc ws sr c).w (actOf xt) (projOf p) d := by
  unfold Loads.wArr
  rw [tiles_at]
  unfold Loads.wStore
  have e : ∀ (w : FVec Ideal S256x256 .f32) (j : S256x256.Idx), shapeCast S256x256 w shapeCasts_S256x256_S256x256 j = w j := by
    intro w j
    pointwise []
  rw [e, w_at _ _ _ _ _ _ _ _ _ _ _ _ _ h, col_tile]

/-- The weight scale of a row on which the square root is exact. -/
theorem out13_at (c : Fin 256) (h : (rowOf dy mc ms vc vs wc ws sr c).good (actOf xt) (projOf p)) :
    (pointLoads (F := Ideal) dy xt p mc ms vc vs wc ws sr).out13 (ix2 0 c) = (rowOf dy mc ms vc vs wc ws sr c).wScale (actOf xt) (projOf p) := by
  have e : (pointLoads (F := Ideal) dy xt p mc ms vc vs wc ws sr).out13 = wsrowK (wscaleK (pointLoads (F := Ideal) dy xt p mc ms vc vs wc ws sr).acc) := View.canon_unit_zero (S := S1x256) zero2 _ _
  rw [e, wsrowK_at, scale_at _ _ _ _ _ _ _ _ _ _ _ h]

/-- The weight code of a column, on a row where the square root is exact, off the rounding ties of the dither. -/
theorem out12_at (c : Fin 256) (d : Fin 2048) (h : (rowOf dy mc ms vc vs wc ws sr c).good (actOf xt) (projOf p))
    (hy : (rowOf dy mc ms vc vs wc ws sr c).dither (actOf xt) (projOf p) d - Ideal.liftRound Int.floor ((rowOf dy mc ms vc vs wc ws sr c).dither (actOf xt) (projOf p) d) ≤ Ideal.ofBits .f32 0x3F7FFFFF#32) :
    (pointLoads (F := Ideal) dy xt p mc ms vc vs wc ws sr).out12 (ix2 c d) = (rowOf dy mc ms vc vs wc ws sr c).wCode (actOf xt) (projOf p) d := by
  unfold Loads.out12
  rw [tiles_at]
  unfold Loads.codes Loads.inv
  refine (wcodeK_at _ _ _ _ _).trans ?_
  rw [scale_at _ _ _ _ _ _ _ _ _ _ _ h, ld_wTile]
  show kernelWord ((pointLoads (F := Ideal) dy xt p mc ms vc vs wc ws sr).wArr (ix2 c (col (tileOf d) (placeOf d))) * _) (View.ld sr (wTile (tileOf d)) (ix2 c (placeOf d))) = _
  rw [ld_wTile]
  show kernelWord ((pointLoads (F := Ideal) dy xt p mc ms vc vs wc ws sr).wArr (ix2 c (col (tileOf d) (placeOf d))) * _) (sr (ix2 c (col (tileOf d) (placeOf d)))) = _
  rw [col_tile, wArr_at _ _ _ _ _ _ _ _ _ _ _ _ h]
  exact kernel_wcode _ _ (scaleOf_ne_zero _) _ hy

/-- The direction, where the square root is exact. -/
theorem out15_at (c : Fin 256) (k : Fin 384) (h : Good ((rowOf dy mc ms vc vs wc ws sr c).v (actOf xt) (projOf p) k)) :
    (pointLoads (F := Ideal) dy xt p mc ms vc vs wc ws sr).out15 (ix2 c k) = (rowOf dy mc ms vc vs wc ws sr c).n (actOf xt) (projOf p) k := by
  unfold Loads.out15
  rw [groups_at, n_at _ _ _ _ _ _ _ _ _ _ _ _ _ (by rw [at_grp_pos]; exact h), at_grp_pos]

/-- The codes of the new first moment. -/
theorem out16_at (c : Fin 256) (k : Fin 384) :
    (pointLoads (F := Ideal) dy xt p mc ms vc vs wc ws sr).out16 (ix2 c k) = (rowOf dy mc ms vc vs wc ws sr c).mCode (actOf xt) (projOf p) k := by
  unfold Loads.out16
  rw [groups_at, codeK_at]
  simp only [m_at, at_grp_pos]
  rfl

/-- The scales of the new first moment. -/
theorem out17_at (c : Fin 256) (g : Fin 3) :
    (pointLoads (F := Ideal) dy xt p mc ms vc vs wc ws sr).out17 (ix2 g c) = (rowOf dy mc ms vc vs wc ws sr c).mScale (actOf xt) (projOf p) g := by
  unfold Loads.out17
  rw [rows_at, scaleK_at]
  simp only [m_at]
  rfl

/-- The codes of the new second moment. -/
theorem out18_at (c : Fin 256) (k : Fin 384) :
    (pointLoads (F := Ideal) dy xt p mc ms vc vs wc ws sr).out18 (ix2 c k) = (rowOf dy mc ms vc vs wc ws sr c).vCode (actOf xt) (projOf p) k := by
  unfold Loads.out18
  rw [groups_at, codeK_at]
  simp only [v_at, at_grp_pos]
  rfl

/-- The scales of the new second moment. -/
theorem out19_at (c : Fin 256) (g : Fin 3) :
    (pointLoads (F := Ideal) dy xt p mc ms vc vs wc ws sr).out19 (ix2 g c) = (rowOf dy mc ms vc vs wc ws sr c).vScale (actOf xt) (projOf p) g := by
  unfold Loads.out19
  rw [rows_at, scaleK_at]
  simp only [v_at]
  rfl

end point

end Cert.KernelIdeal.Blocks

end
-- ==== Proof.Proj.lean ====
/- What the two scratches hold: the transposed activations, and the projector with its packed codes dequantized. -/
module

public import proofs.«01_k».proof.Proof.Point
public import proofs.«01_k».proof.Proof.Spec

@[expose] public section

set_option maxRecDepth 16384

noncomputable section

namespace Cert.KernelIdeal.Blocks

open Idealize.ShloMosaic Idealize.ShloMosaic.Pointwise
open Cert.KernelIdeal.Gen Cert.Scalars Cert.Spec

/-! ## The activations -/

/-- The first scratch holds the transposed activations. -/
theorem xtOf_at (x : Vec Ideal S256x2048 .bf16) (d : Fin 2048) (s : Fin 256) : xtOf x (ix2 d s) = x (ix2 s d) := by
  have hz : (![0, 0] : Fin 2 → ℕ) = fun _ => 0 := by
    funext a
    fin_cases a <;> rfl
  have e : xtOf x = xtK (View.ld x (Rect.unit ![0, 0] S256x2048.size inb_S256x2048_S256x2048_0_0)) :=
    View.canon_unit_zero (S := S2048x256) hz _ _
  rw [e, show View.ld x (Rect.unit ![0, 0] S256x2048.size inb_S256x2048_S256x2048_0_0) = x from
    View.ld_unit_zero (S := S256x2048) hz _ _]
  pointwise [xtK]

/-! ## The interleaving of the nibbles -/

/-- Where column `k` of [low nibbles | high nibbles] goes. -/
def dest (k : Fin 256) : ℕ := if k.val < 128 then 2 * k.val else 2 * (k.val - 128) + 1

/-- The 0/1 matrix moves column `k` to column `dest k`. -/
theorem permK_at (k c : Fin 256) : permK (F := Ideal) (ix2 k c) = if dest k = c.val then 1 else 0 := by
  have hd : ∀ k : Fin 256, Scalar.select (IntOp.cmpi CmpIPredicate.slt (BitVec.ofNat 32 k.val) 128#32)
        (IntOp.muli (2#32) (BitVec.ofNat 32 k.val))
        (IntOp.addi (IntOp.muli (2#32) (IntOp.subi (BitVec.ofNat 32 k.val) 128#32)) 1#32)
      = BitVec.ofNat 32 (dest k) := by decide +kernel
  have hb : dest k < 256 := by
    unfold dest
    split <;> omega
  pointwise [permK]
  rw [hd k]
  by_cases h : dest k = c.val
  · rw [if_pos h, h]
    simp [Scalar.select, IntOp.cmpi]
  · rw [if_neg h]
    have hne : BitVec.ofNat 32 (dest k) ≠ BitVec.ofNat 32 c.val := by
      intro e
      have := congrArg BitVec.toNat e
      simp only [BitVec.toNat_ofNat] at this
      have hc := c.isLt
      omega
    simp [Scalar.select, IntOp.cmpi, beq_eq_false_iff_ne.mpr hne]

/-- The column that goes to column `c`. -/
def src (c : Fin 256) : Fin 256 := if c.val % 2 = 0 then ⟨c.val / 2, by omega⟩ else ⟨128 + c.val / 2, by omega⟩

theorem dest_eq_iff (k c : Fin 256) : dest k = c.val ↔ k = src c := by
  have hk := k.isLt
  have hc := c.isLt
  unfold dest src
  rw [Fin.ext_iff]
  split <;> split <;> (show _ ↔ k.val = _) <;> dsimp only <;> omega

/-- A product with the 0/1 matrix picks one column. -/
theorem perm_sum (f : Fin 256 → EReal) (c : Fin 256) :
    ∑ k : Fin 256, f k * permK (F := Ideal) (ix2 k c) = f (src c) := by
  rw [Finset.sum_eq_single (src c)]
  · rw [permK_at, if_pos ((dest_eq_iff _ _).mpr rfl)]
    exact mul_one _
  · intro k _ hk
    rw [permK_at, if_neg fun e => hk ((dest_eq_iff _ _).mp e)]
    exact mul_zero _
  · intro h
    exact absurd (Finset.mem_univ _) h

/-! ## The nibbles as numbers -/

theorem nibLo_int : ∀ b : BitVec 8, (IntOp.andi (b.setWidth 32) 15#32).toInt = ((b.toNat % 16 : ℕ) : ℤ) := by decide +kernel
theorem nibHi_int : ∀ b : BitVec 8,
    (IntOp.shrsi .vector (b.setWidth 32) 4#32).toInt = ((b.toNat / 16 : ℕ) : ℤ) := by decide +kernel

/-- The two halves of the unpacked codes. -/
theorem nibblesK_at (pc : Vec Ideal S384x128 .i8) (k : Fin 384) (c : Fin 256) :
    nibblesK (F := Ideal) pc (ix2 k (src c))
      = if c.val % 2 = 0 then nibLo (pc (ix2 k (⟨c.val / 2, by omega⟩ : Fin 128)))
        else nibHi (pc (ix2 k (⟨c.val / 2, by omega⟩ : Fin 128))) := by
  have hc := c.isLt
  by_cases h : c.val % 2 = 0
  · rw [if_pos h, show src c = ⟨c.val / 2, by omega⟩ from if_pos h]
    pointwise [nibblesK]
    rw [dif_pos (by omega)]
    show (((IntOp.andi ((pc (ix2 k (⟨c.val / 2, by omega⟩ : Fin 128))).setWidth 32) 15#32).toInt : ℝ) : EReal) = _
    rw [nibLo_int, Int.cast_natCast]
    rfl
  · rw [if_neg h, show src c = ⟨128 + c.val / 2, by omega⟩ from if_neg h]
    pointwise [nibblesK]
    show (((IntOp.shrsi .vector ((pc (ix2 k (⟨c.val / 2, by omega⟩ : Fin 128))).setWidth 32) 4#32).toInt : ℝ) : EReal) = _
    rw [nibHi_int, Int.cast_natCast]
    rfl

/-! ## The projector -/

/-- One group of the projector. -/
theorem projK_at (pc : Vec Ideal S384x128 .i8) (pz ps : Vec Ideal S384x1 .f32) (k : Fin 384) (c : Fin 256) :
    projK (F := Ideal) pc pz ps (ix2 k c)
      = ((if c.val % 2 = 0 then nibLo (pc (ix2 k (⟨c.val / 2, by omega⟩ : Fin 128)))
          else nibHi (pc (ix2 k (⟨c.val / 2, by omega⟩ : Fin 128)))) - pz (ix2 k 0)) * ps (ix2 k 0) := by
  rw [← nibblesK_at, ← perm_sum (fun x => nibblesK (F := Ideal) pc (ix2 k x)) c]
  pointwise [projK, colK]

theorem ld_cTile (x : Vec Ideal S384x1024 .i8) (j : Fin 8) (k : Fin 384) (l : Fin 128) :
    View.ld x (cTile j) (ix2 k l) = x (ix2 k (⟨128 * j.val + l.val, by omega⟩ : Fin 1024)) :=
  congrArg x (funext fun a => Fin.ext (match a with
    | ⟨0, _⟩ => (by show 0 + 1 * k.val = k.val; omega)
    | ⟨1, _⟩ => (by show 128 * j.val + 1 * l.val = 128 * j.val + l.val; omega)))

theorem ld_kTile (x : Vec Ideal S384x8 .f32) (j : Fin 8) (k : Fin 384) :
    View.ld x (kTile j) (ix2 k 0) = x (ix2 k j) :=
  congrArg x (funext fun a => Fin.ext (match a with
    | ⟨0, _⟩ => (by show 0 + 1 * k.val = k.val; omega)
    | ⟨1, _⟩ => (by show j.val + 1 * 0 = j.val; omega)))

/-- The second scratch holds the projector. -/
theorem pOf_at (pc : Vec Ideal S384x1024 .i8) (ps pz : Vec Ideal S384x8 .f32) (k : Fin 384) (d : Fin 2048) :
    pOf (F := Ideal) pc ps pz (ix2 k d)
      = proj (fun k j => pc (ix2 k j)) (fun k g => ps (ix2 k g)) (fun k g => pz (ix2 k g)) k d := by
  have hd := d.isLt
  have e : pOf (F := Ideal) pc ps pz (ix2 k d)
      = projK (View.ld pc (cTile ⟨d.val / 256, by omega⟩)) (View.ld pz (kTile ⟨d.val / 256, by omega⟩))
          (View.ld ps (kTile ⟨d.val / 256, by omega⟩)) (ix2 k (⟨d.val % 256, by omega⟩ : Fin 256)) :=
    canon_pTiles (F := Ideal) (e := .bf16) _ _ _ _ rfl (by show d.val = 256 * (d.val / 256) + d.val % 256; omega)
  rw [e]
  refine (projK_at _ _ _ _ _).trans ?_
  have h2 : d.val % 256 % 2 = d.val % 2 := by omega
  have hi : (⟨128 * (d.val / 256) + d.val % 256 / 2, by omega⟩ : Fin 1024) = ⟨d.val / 2, by omega⟩ :=
    Fin.ext (by show 128 * (d.val / 256) + d.val % 256 / 2 = d.val / 2; omega)
  rw [ld_kTile, ld_kTile, ld_cTile]
  unfold proj
  dsimp only
  rw [h2, hi]

end Cert.KernelIdeal.Blocks

end
-- ==== Proof.Arrays.lean ====
/- What a grid point's blocks hold: rows of the launched arguments. -/
module

public import proofs.«01_k».proof.Proof.Every
public import proofs.«01_k».proof.Proof.Kernel
public import proofs.«01_k».proof.Proof.Proj
public import Idealize.ShloMosaic.Lib.StableHlo.ReadAt

@[expose] public section

set_option maxRecDepth 16384

noncomputable section

namespace Cert.KernelIdeal.Blocks

open Idealize.ShloMosaic Idealize.ShloMosaic.TcCoe Idealize.ShloMosaic.Pointwise Idealize.SL.Sem
open Cert.KernelIdeal.Gen Cert.Scalars Cert.Spec

variable (m : (ℓ : Loc nD τ sig) → Buf (Elt Ideal) ℓ) (c : Dev nD)

/-- The launched arguments, by index. -/
def argsOf : Args where
  x s d := (m ((c : Thread nD τ).loc main_arg0) : Vec Ideal S1x256x2048 .bf16) (ix3 0 s d)
  dy s o := (m ((c : Thread nD τ).loc main_arg1) : Vec Ideal S1x256x5632 .bf16) (ix3 0 s o)
  q k j := (m ((c : Thread nD τ).loc main_arg2) : Vec Ideal S384x1024 .i8) (ix2 k j)
  s k g := (m ((c : Thread nD τ).loc main_arg3) : Vec Ideal S384x8 .f32) (ix2 k g)
  z k g := (m ((c : Thread nD τ).loc main_arg4) : Vec Ideal S384x8 .f32) (ix2 k g)
  mc o k := (m ((c : Thread nD τ).loc main_arg5) : Vec Ideal S5632x384 .i8) (ix2 o k)
  ms o g := (m ((c : Thread nD τ).loc main_arg6) : Vec Ideal S5632x3 .f32) (ix2 o g)
  vc o k := (m ((c : Thread nD τ).loc main_arg7) : Vec Ideal S5632x384 .i8) (ix2 o k)
  vs o g := (m ((c : Thread nD τ).loc main_arg8) : Vec Ideal S5632x3 .f32) (ix2 o g)
  wc o d := (m ((c : Thread nD τ).loc main_arg9) : Vec Ideal S5632x2048 .i8) (ix2 o d)
  ws o := (m ((c : Thread nD τ).loc main_arg10) : Vec Ideal S5632 .f32) (ix1 o)
  sr o d := (m ((c : Thread nD τ).loc main_arg11) : Vec Ideal S5632x2048 .i8) (ix2 o d)

/-! ## The arrays the windows read -/

theorem V_v0 (s : Fin 256) (d : Fin 2048) : (V m c main_v0 : Vec Ideal S256x2048 .bf16) (ix2 s d) = (argsOf m c).x s d := by
  unfold V
  after_reads_at
  rfl

theorem V_v1 (s : Fin 256) (o : Fin 5632) : (V m c main_v1 : Vec Ideal S256x5632 .bf16) (ix2 s o) = (argsOf m c).dy s o := by
  unfold V
  after_reads_at
  rfl

theorem V_v2 (g : Fin 3) (o : Fin 5632) : (V m c main_v2 : Vec Ideal S3x5632 .f32) (ix2 g o) = (argsOf m c).ms o g := by
  unfold V
  after_reads_at
  rfl

theorem V_v3 (g : Fin 3) (o : Fin 5632) : (V m c main_v3 : Vec Ideal S3x5632 .f32) (ix2 g o) = (argsOf m c).vs o g := by
  unfold V
  after_reads_at
  rfl

theorem V_v4 (o : Fin 5632) : (V m c main_v4 : Vec Ideal S1x5632 .f32) (ix2 0 o) = (argsOf m c).ws o := by
  unfold V
  after_reads_at
  rfl

/-! ## The blocks at an index -/

theorem lt22 (t : Fin cfg0.N) : t.val < 22 := lt_of_lt_of_eq t.isLt N_0

/-- The array row that a point's block row is. -/
def rowIx (t : Fin cfg0.N) (r : Fin 256) : Fin 5632 := ⟨256 * t.val + r.val, by have := lt22 t; omega⟩

theorem idx_0 : ∀ t : Fin cfg0.N, win0_0.index t (0 : Fin 2) = 0 ∧ win0_0.index t (1 : Fin 2) = 0 :=
  (by decide +kernel : ∀ t : Fin grid0.N, _)

theorem blk_0 (t : Fin cfg0.N) (a : Fin 256) (b : Fin 2048) : (iblk m c 0 t : Vec Ideal (⟨2, ![256, 2048]⟩ : Shape) .bf16) (ix2 a b) = (argsOf m c).x a b := by
  obtain ⟨h0, h1⟩ := idx_0 t
  have e : ((cfg0.win 0).blk t).view.emb (ix2 a b) = ix2 a b := funext fun x => Fin.ext (match x with
    | ⟨0, _⟩ => (by show win0_0.index t (0 : Fin 2) * 256 + 1 * a.val = a.val; rw [h0]; omega)
    | ⟨1, _⟩ => (by show win0_0.index t (1 : Fin 2) * 2048 + 1 * b.val = b.val; rw [h1]; omega))
  exact (congrArg (V m c main_v0) e).trans (V_v0 m c a b)

theorem idx_1 : ∀ t : Fin cfg0.N, win0_1.index t (0 : Fin 2) = 0 ∧ win0_1.index t (1 : Fin 2) = t.val :=
  (by decide +kernel : ∀ t : Fin grid0.N, _)

theorem blk_1 (t : Fin cfg0.N) (a : Fin 256) (b : Fin 256) : (iblk m c 1 t : Vec Ideal (⟨2, ![256, 256]⟩ : Shape) .bf16) (ix2 a b) = (argsOf m c).dy a (rowIx t b) := by
  obtain ⟨h0, h1⟩ := idx_1 t
  have e : ((cfg0.win 1).blk t).view.emb (ix2 a b) = ix2 a (rowIx t b) := funext fun x => Fin.ext (match x with
    | ⟨0, _⟩ => (by show win0_1.index t (0 : Fin 2) * 256 + 1 * a.val = a.val; rw [h0]; omega)
    | ⟨1, _⟩ => (by show win0_1.index t (1 : Fin 2) * 256 + 1 * b.val = 256 * t.val + b.val; rw [h1]; omega))
  exact (congrArg (V m c main_v1) e).trans (V_v1 m c a (rowIx t b))

theorem idx_2 : ∀ t : Fin cfg0.N, win0_2.index t (0 : Fin 2) = 0 ∧ win0_2.index t (1 : Fin 2) = 0 :=
  (by decide +kernel : ∀ t : Fin grid0.N, _)

theorem blk_2 (t : Fin cfg0.N) (a : Fin 384) (b : Fin 1024) : (iblk m c 2 t : Vec Ideal (⟨2, ![384, 1024]⟩ : Shape) .i8) (ix2 a b) = (argsOf m c).q a b := by
  obtain ⟨h0, h1⟩ := idx_2 t
  have e : ((cfg0.win 2).blk t).view.emb (ix2 a b) = ix2 a b := funext fun x => Fin.ext (match x with
    | ⟨0, _⟩ => (by show win0_2.index t (0 : Fin 2) * 384 + 1 * a.val = a.val; rw [h0]; omega)
    | ⟨1, _⟩ => (by show win0_2.index t (1 : Fin 2) * 1024 + 1 * b.val = b.val; rw [h1]; omega))
  exact (congrArg (V m c main_arg2) e).trans (congrFun (V_main_arg2 m c) (ix2 a b))

theorem idx_3 : ∀ t : Fin cfg0.N, win0_3.index t (0 : Fin 2) = 0 ∧ win0_3.index t (1 : Fin 2) = 0 :=
  (by decide +kernel : ∀ t : Fin grid0.N, _)

theorem blk_3 (t : Fin cfg0.N) (a : Fin 384) (b : Fin 8) : (iblk m c 3 t : Vec Ideal (⟨2, ![384, 8]⟩ : Shape) .f32) (ix2 a b) = (argsOf m c).s a b := by
  obtain ⟨h0, h1⟩ := idx_3 t
  have e : ((cfg0.win 3).blk t).view.emb (ix2 a b) = ix2 a b := funext fun x => Fin.ext (match x with
    | ⟨0, _⟩ => (by show win0_3.index t (0 : Fin 2) * 384 + 1 * a.val = a.val; rw [h0]; omega)
    | ⟨1, _⟩ => (by show win0_3.index t (1 : Fin 2) * 8 + 1 * b.val = b.val; rw [h1]; omega))
  exact (congrArg (V m c main_arg3) e).trans (congrFun (V_main_arg3 m c) (ix2 a b))

theorem idx_4 : ∀ t : Fin cfg0.N, win0_4.index t (0 : Fin 2) = 0 ∧ win0_4.index t (1 : Fin 2) = 0 :=
  (by decide +kernel : ∀ t : Fin grid0.N, _)

theorem blk_4 (t : Fin cfg0.N) (a : Fin 384) (b : Fin 8) : (iblk m c 4 t : Vec Ideal (⟨2, ![384, 8]⟩ : Shape) .f32) (ix2 a b) = (argsOf m c).z a b := by
  obtain ⟨h0, h1⟩ := idx_4 t
  have e : ((cfg0.win 4).blk t).view.emb (ix2 a b) = ix2 a b := funext fun x => Fin.ext (match x with
    | ⟨0, _⟩ => (by show win0_4.index t (0 : Fin 2) * 384 + 1 * a.val = a.val; rw [h0]; omega)
    | ⟨1, _⟩ => (by show win0_4.index t (1 : Fin 2) * 8 + 1 * b.val = b.val; rw [h1]; omega))
  exact (congrArg (V m c main_arg4) e).trans (congrFun (V_main_arg4 m c) (ix2 a b))

theorem idx_5 : ∀ t : Fin cfg0.N, win0_5.index t (0 : Fin 2) = t.val ∧ win0_5.index t (1 : Fin 2) = 0 :=
  (by decide +kernel : ∀ t : Fin grid0.N, _)

theorem blk_5 (t : Fin cfg0.N) (a : Fin 256) (b : Fin 384) : (iblk m c 5 t : Vec Ideal (⟨2, ![256, 384]⟩ : Shape) .i8) (ix2 a b) = (argsOf m c).mc (rowIx t a) b := by
  obtain ⟨h0, h1⟩ := idx_5 t
  have e : ((cfg0.win 5).blk t).view.emb (ix2 a b) = ix2 (rowIx t a) b := funext fun x => Fin.ext (match x with
    | ⟨0, _⟩ => (by show win0_5.index t (0 : Fin 2) * 256 + 1 * a.val = 256 * t.val + a.val; rw [h0]; omega)
    | ⟨1, _⟩ => (by show win0_5.index t (1 : Fin 2) * 384 + 1 * b.val = b.val; rw [h1]; omega))
  exact (congrArg (V m c main_arg5) e).trans (congrFun (V_main_arg5 m c) (ix2 (rowIx t a) b))

theorem idx_6 : ∀ t : Fin cfg0.N, win0_6.index t (0 : Fin 2) = 0 ∧ win0_6.index t (1 : Fin 2) = t.val :=
  (by decide +kernel : ∀ t : Fin grid0.N, _)

theorem blk_6 (t : Fin cfg0.N) (a : Fin 3) (b : Fin 256) : (iblk m c 6 t : Vec Ideal (⟨2, ![3, 256]⟩ : Shape) .f32) (ix2 a b) = (argsOf m c).ms (rowIx t b) a := by
  obtain ⟨h0, h1⟩ := idx_6 t
  have e : ((cfg0.win 6).blk t).view.emb (ix2 a b) = ix2 a (rowIx t b) := funext fun x => Fin.ext (match x with
    | ⟨0, _⟩ => (by show win0_6.index t (0 : Fin 2) * 3 + 1 * a.val = a.val; rw [h0]; omega)
    | ⟨1, _⟩ => (by show win0_6.index t (1 : Fin 2) * 256 + 1 * b.val = 256 * t.val + b.val; rw [h1]; omega))
  exact (congrArg (V m c main_v2) e).trans (V_v2 m c a (rowIx t b))

theorem idx_7 : ∀ t : Fin cfg0.N, win0_7.index t (0 : Fin 2) = t.val ∧ win0_7.index t (1 : Fin 2) = 0 :=
  (by decide +kernel : ∀ t : Fin grid0.N, _)

theorem blk_7 (t : Fin cfg0.N) (a : Fin 256) (b : Fin 384) : (iblk m c 7 t : Vec Ideal (⟨2, ![256, 384]⟩ : Shape) .i8) (ix2 a b) = (argsOf m c).vc (rowIx t a) b := by
  obtain ⟨h0, h1⟩ := idx_7 t
  have e : ((cfg0.win 7).blk t).view.emb (ix2 a b) = ix2 (rowIx t a) b := funext fun x => Fin.ext (match x with
    | ⟨0, _⟩ => (by show win0_7.index t (0 : Fin 2) * 256 + 1 * a.val = 256 * t.val + a.val; rw [h0]; omega)
    | ⟨1, _⟩ => (by show win0_7.index t (1 : Fin 2) * 384 + 1 * b.val = b.val; rw [h1]; omega))
  exact (congrArg (V m c main_arg7) e).trans (congrFun (V_main_arg7 m c) (ix2 (rowIx t a) b))

theorem idx_8 : ∀ t : Fin cfg0.N, win0_8.index t (0 : Fin 2) = 0 ∧ win0_8.index t (1 : Fin 2) = t.val :=
  (by decide +kernel : ∀ t : Fin grid0.N, _)

theorem blk_8 (t : Fin cfg0.N) (a : Fin 3) (b : Fin 256) : (iblk m c 8 t : Vec Ideal (⟨2, ![3, 256]⟩ : Shape) .f32) (ix2 a b) = (argsOf m c).vs (rowIx t b) a := by
  obtain ⟨h0, h1⟩ := idx_8 t
  have e : ((cfg0.win 8).blk t).view.emb (ix2 a b) = ix2 a (rowIx t b) := funext fun x => Fin.ext (match x with
    | ⟨0, _⟩ => (by show win0_8.index t (0 : Fin 2) * 3 + 1 * a.val = a.val; rw [h0]; omega)
    | ⟨1, _⟩ => (by show win0_8.index t (1 : Fin 2) * 256 + 1 * b.val = 256 * t.val + b.val; rw [h1]; omega))
  exact (congrArg (V m c main_v3) e).trans (V_v3 m c a (rowIx t b))

theorem idx_9 : ∀ t : Fin cfg0.N, win0_9.index t (0 : Fin 2) = t.val ∧ win0_9.index t (1 : Fin 2) = 0 :=
  (by decide +kernel : ∀ t : Fin grid0.N, _)

theorem blk_9 (t : Fin cfg0.N) (a : Fin 256) (b : Fin 2048) : (iblk m c 9 t : Vec Ideal (⟨2, ![256, 2048]⟩ : Shape) .i8) (ix2 a b) = (argsOf m c).wc (rowIx t a) b := by
  obtain ⟨h0, h1⟩ := idx_9 t
  have e : ((cfg0.win 9).blk t).view.emb (ix2 a b) = ix2 (rowIx t a) b := funext fun x => Fin.ext (match x with
    | ⟨0, _⟩ => (by show win0_9.index t (0 : Fin 2) * 256 + 1 * a.val = 256 * t.val + a.val; rw [h0]; omega)
    | ⟨1, _⟩ => (by show win0_9.index t (1 : Fin 2) * 2048 + 1 * b.val = b.val; rw [h1]; omega))
  exact (congrArg (V m c main_arg9) e).trans (congrFun (V_main_arg9 m c) (ix2 (rowIx t a) b))

theorem idx_10 : ∀ t : Fin cfg0.N, win0_10.index t (0 : Fin 2) = 0 ∧ win0_10.index t (1 : Fin 2) = t.val :=
  (by decide +kernel : ∀ t : Fin grid0.N, _)

theorem blk_10 (t : Fin cfg0.N) (b : Fin 256) : (iblk m c 10 t : Vec Ideal (⟨2, ![1, 256]⟩ : Shape) .f32) (ix2 0 b) = (argsOf m c).ws (rowIx t b) := by
  obtain ⟨h0, h1⟩ := idx_10 t
  have e : ((cfg0.win 10).blk t).view.emb (ix2 0 b) = ix2 0 (rowIx t b) := funext fun x => Fin.ext (match x with
    | ⟨0, _⟩ => (by show win0_10.index t (0 : Fin 2) * 1 + 1 * (0 : Fin 1).val = (0 : Fin 1).val; rw [h0]; omega)
    | ⟨1, _⟩ => (by show win0_10.index t (1 : Fin 2) * 256 + 1 * b.val = 256 * t.val + b.val; rw [h1]; omega))
  exact (congrArg (V m c main_v4) e).trans (V_v4 m c (rowIx t b))

theorem idx_11 : ∀ t : Fin cfg0.N, win0_11.index t (0 : Fin 2) = t.val ∧ win0_11.index t (1 : Fin 2) = 0 :=
  (by decide +kernel : ∀ t : Fin grid0.N, _)

theorem blk_11 (t : Fin cfg0.N) (a : Fin 256) (b : Fin 2048) : (iblk m c 11 t : Vec Ideal (⟨2, ![256, 2048]⟩ : Shape) .i8) (ix2 a b) = (argsOf m c).sr (rowIx t a) b := by
  obtain ⟨h0, h1⟩ := idx_11 t
  have e : ((cfg0.win 11).blk t).view.emb (ix2 a b) = ix2 (rowIx t a) b := funext fun x => Fin.ext (match x with
    | ⟨0, _⟩ => (by show win0_11.index t (0 : Fin 2) * 256 + 1 * a.val = 256 * t.val + a.val; rw [h0]; omega)
    | ⟨1, _⟩ => (by show win0_11.index t (1 : Fin 2) * 2048 + 1 * b.val = b.val; rw [h1]; omega))
  exact (congrArg (V m c main_arg11) e).trans (congrFun (V_main_arg11 m c) (ix2 (rowIx t a) b))

/-- A point's block rows are rows of the arguments. -/
theorem row_eq (t : Fin cfg0.N) (r : Fin 256) :
    rowOf (iblk m c 1 t) (iblk m c 5 t) (iblk m c 6 t) (iblk m c 7 t) (iblk m c 8 t) (iblk m c 9 t) (iblk m c 10 t)
      (iblk m c 11 t) r = (argsOf m c).row (rowIx t r) := by
  unfold rowOf Args.row
  congr 1
  · exact funext fun s => blk_1 m c t s r
  · exact funext fun k => blk_5 m c t r k
  · exact funext fun g => blk_6 m c t g r
  · exact funext fun k => blk_7 m c t r k
  · exact funext fun g => blk_8 m c t g r
  · exact funext fun d => blk_9 m c t r d
  · exact blk_10 m c t r
  · exact funext fun d => blk_11 m c t r d

end Cert.KernelIdeal.Blocks

end
-- ==== Proof.Results.lean ====
/- What the kernel leaves in its eight result buffers: at each index, the step's row function of the launched
   arguments. -/
module

public import proofs.«01_k».proof.Proof.Arrays

@[expose] public section

set_option maxRecDepth 16384

noncomputable section

namespace Cert.KernelIdeal.Blocks

open Idealize.ShloMosaic Idealize.ShloMosaic.TcCoe Idealize.ShloMosaic.Pointwise Idealize.SL.Sem
open Cert.KernelIdeal.Gen Cert.Scalars Cert.Spec

variable (m : (ℓ : Loc nD τ sig) → Buf (Elt Ideal) ℓ) (c : Dev nD)

theorem act_eq : actOf (xtArr m c) = (argsOf m c).x := by
  funext s d
  unfold actOf xtArr
  rw [xtOf_at]
  exact blk_0 m c t0 s d

theorem proj_eq : projOf (pArr m c) = (argsOf m c).P := by
  funext k d
  refine (pOf_at _ _ _ k d).trans ?_
  unfold Args.P
  congr 1
  · exact funext fun k => funext fun j => blk_2 m c t0 k j
  · exact funext fun k => funext fun g => blk_3 m c t0 k g
  · exact funext fun k => funext fun g => blk_4 m c t0 k g

/-! ## The results at an index -/

/-- The point and the block row that leave row `o`. -/
def tOf (o : Fin 5632) : Fin cfg0.N := ⟨o.val / 256, lt_of_lt_of_eq (by omega) N_0.symm⟩
def rOf (o : Fin 5632) : Fin 256 := ⟨o.val % 256, by omega⟩

theorem rowIx_of (o : Fin 5632) : rowIx (tOf o) (rOf o) = o :=
  Fin.ext (by show 256 * (o.val / 256) + o.val % 256 = o.val; omega)

theorem acc_eq (n : ℕ) (hn : 0 + n < cfg0.N) (t : Fin cfg0.N) (h : n = t.val) :
    Pipeline.accAt (fun n h => Value.stAt0 m c n h Value.junk0) (Value.stAt0 m c) 0 n hn
      = ((ptLoads m c t).out12, (ptLoads m c t).out13, (ptLoads m c t).out14, (ptLoads m c t).out15, (ptLoads m c t).out16,
         (ptLoads m c t).out17, (ptLoads m c t).out18, (ptLoads m c t).out19, xtArr m c, pArr m c) := by
  subst h
  exact (Value.outsAt0_sweep m c t.val t.isLt).symm.trans (point_eq m c t)

theorem res_12 (o : Fin 5632) (d : Fin 2048)
    (hg : ((argsOf m c).row o).good (argsOf m c).x (argsOf m c).P)
    (hy : ((argsOf m c).row o).dither (argsOf m c).x (argsOf m c).P d - Ideal.liftRound Int.floor (((argsOf m c).row o).dither (argsOf m c).x (argsOf m c).P d) ≤ Ideal.ofBits .f32 0x3F7FFFFF#32) :
    (Value.G12 m c : Vec Ideal S5632x2048 .i8) (ix2 o d) = ((argsOf m c).row o).wCode (argsOf m c).x (argsOf m c).P d := by
  have hp : 1 * (o.val / 256 - 0) + 1 * (d.val / 2048 - 0) = (tOf o).val := by show _ = o.val / 256; omega
  have hl : Value.loc12Of (ix2 o d) = ix2 (rOf o) d := funext fun x => Fin.ext (match x with
    | ⟨0, _⟩ => (by show o.val % 256 = o.val % 256; omega)
    | ⟨1, _⟩ => (by show d.val % 2048 = d.val; omega))
  have e := congrFun (congrArg (fun q => q.1) (acc_eq m c (1 * (o.val / 256 - 0) + 1 * (d.val / 2048 - 0)) (by rw [Nat.zero_add, hp]; exact (tOf o).isLt) (tOf o) hp)) (ix2 (rOf o) d)
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq] at hg hy ⊢
  unfold Value.G12
  rw [dif_pos (show Value.pt12Of (ix2 o d) < cfg0.N from lt_of_eq_of_lt hp (tOf o).isLt), hl]
  refine e.trans ?_
  exact out12_at _ _ _ _ _ _ _ _ _ _ (rOf o) d hg hy

theorem res_13 (o : Fin 5632)
    (hg : ((argsOf m c).row o).good (argsOf m c).x (argsOf m c).P) :
    (Value.G13 m c : Vec Ideal S1x5632 .f32) (ix2 0 o) = ((argsOf m c).row o).wScale (argsOf m c).x (argsOf m c).P := by
  have hp : 22 * ((0 : Fin 1).val / 1 - 0) + 1 * (o.val / 256 - 0) = (tOf o).val := by show _ = o.val / 256; omega
  have hl : Value.loc13Of (ix2 0 o) = ix2 (0 : Fin 1) (rOf o) := funext fun x => Fin.ext (match x with
    | ⟨0, _⟩ => (by show (0 : Fin 1).val % 1 = (0 : Fin 1).val; omega)
    | ⟨1, _⟩ => (by show o.val % 256 = o.val % 256; omega))
  have e := congrFun (congrArg (fun q => q.2.1) (acc_eq m c (22 * ((0 : Fin 1).val / 1 - 0) + 1 * (o.val / 256 - 0)) (by rw [Nat.zero_add, hp]; exact (tOf o).isLt) (tOf o) hp)) (ix2 (0 : Fin 1) (rOf o))
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq] at hg ⊢
  unfold Value.G13
  rw [dif_pos (show Value.pt13Of (ix2 0 o) < cfg0.N from lt_of_eq_of_lt hp (tOf o).isLt), hl]
  refine e.trans ?_
  exact out13_at _ _ _ _ _ _ _ _ _ _ (rOf o) hg

theorem res_14 (o : Fin 5632) (d : Fin 2048)
    (hg : ((argsOf m c).row o).good (argsOf m c).x (argsOf m c).P) :
    (Value.G14 m c : Vec Ideal S5632x2048 .f32) (ix2 o d) = ((argsOf m c).row o).delta (argsOf m c).x (argsOf m c).P d := by
  have hp : 1 * (o.val / 256 - 0) + 1 * (d.val / 2048 - 0) = (tOf o).val := by show _ = o.val / 256; omega
  have hl : Value.loc14Of (ix2 o d) = ix2 (rOf o) d := funext fun x => Fin.ext (match x with
    | ⟨0, _⟩ => (by show o.val % 256 = o.val % 256; omega)
    | ⟨1, _⟩ => (by show d.val % 2048 = d.val; omega))
  have e := congrFun (congrArg (fun q => q.2.2.1) (acc_eq m c (1 * (o.val / 256 - 0) + 1 * (d.val / 2048 - 0)) (by rw [Nat.zero_add, hp]; exact (tOf o).isLt) (tOf o) hp)) (ix2 (rOf o) d)
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq] at hg ⊢
  unfold Value.G14
  rw [dif_pos (show Value.pt14Of (ix2 o d) < cfg0.N from lt_of_eq_of_lt hp (tOf o).isLt), hl]
  refine e.trans ?_
  exact out14_at _ _ _ _ _ _ _ _ _ _ (rOf o) d hg

theorem res_15 (o : Fin 5632) (k : Fin 384)
    (hg : Good (((argsOf m c).row o).v (argsOf m c).x (argsOf m c).P k)) :
    (Value.G15 m c : Vec Ideal S5632x384 .f32) (ix2 o k) = ((argsOf m c).row o).n (argsOf m c).x (argsOf m c).P k := by
  have hp : 1 * (o.val / 256 - 0) + 1 * (k.val / 384 - 0) = (tOf o).val := by show _ = o.val / 256; omega
  have hl : Value.loc15Of (ix2 o k) = ix2 (rOf o) k := funext fun x => Fin.ext (match x with
    | ⟨0, _⟩ => (by show o.val % 256 = o.val % 256; omega)
    | ⟨1, _⟩ => (by show k.val % 384 = k.val; omega))
  have e := congrFun (congrArg (fun q => q.2.2.2.1) (acc_eq m c (1 * (o.val / 256 - 0) + 1 * (k.val / 384 - 0)) (by rw [Nat.zero_add, hp]; exact (tOf o).isLt) (tOf o) hp)) (ix2 (rOf o) k)
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq] at hg ⊢
  unfold Value.G15
  rw [dif_pos (show Value.pt15Of (ix2 o k) < cfg0.N from lt_of_eq_of_lt hp (tOf o).isLt), hl]
  refine e.trans ?_
  exact out15_at _ _ _ _ _ _ _ _ _ _ (rOf o) k hg

theorem res_16 (o : Fin 5632) (k : Fin 384) :
    (Value.G16 m c : Vec Ideal S5632x384 .i8) (ix2 o k) = ((argsOf m c).row o).mCode (argsOf m c).x (argsOf m c).P k := by
  have hp : 1 * (o.val / 256 - 0) + 1 * (k.val / 384 - 0) = (tOf o).val := by show _ = o.val / 256; omega
  have hl : Value.loc16Of (ix2 o k) = ix2 (rOf o) k := funext fun x => Fin.ext (match x with
    | ⟨0, _⟩ => (by show o.val % 256 = o.val % 256; omega)
    | ⟨1, _⟩ => (by show k.val % 384 = k.val; omega))
  have e := congrFun (congrArg (fun q => q.2.2.2.2.1) (acc_eq m c (1 * (o.val / 256 - 0) + 1 * (k.val / 384 - 0)) (by rw [Nat.zero_add, hp]; exact (tOf o).isLt) (tOf o) hp)) (ix2 (rOf o) k)
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq]
  unfold Value.G16
  rw [dif_pos (show Value.pt16Of (ix2 o k) < cfg0.N from lt_of_eq_of_lt hp (tOf o).isLt), hl]
  refine e.trans ?_
  exact out16_at _ _ _ _ _ _ _ _ _ _ (rOf o) k

theorem res_17 (o : Fin 5632) (g : Fin 3) :
    (Value.G17 m c : Vec Ideal S3x5632 .f32) (ix2 g o) = ((argsOf m c).row o).mScale (argsOf m c).x (argsOf m c).P g := by
  have hp : 22 * (g.val / 3 - 0) + 1 * (o.val / 256 - 0) = (tOf o).val := by show _ = o.val / 256; omega
  have hl : Value.loc17Of (ix2 g o) = ix2 g (rOf o) := funext fun x => Fin.ext (match x with
    | ⟨0, _⟩ => (by show g.val % 3 = g.val; omega)
    | ⟨1, _⟩ => (by show o.val % 256 = o.val % 256; omega))
  have e := congrFun (congrArg (fun q => q.2.2.2.2.2.1) (acc_eq m c (22 * (g.val / 3 - 0) + 1 * (o.val / 256 - 0)) (by rw [Nat.zero_add, hp]; exact (tOf o).isLt) (tOf o) hp)) (ix2 g (rOf o))
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq]
  unfold Value.G17
  rw [dif_pos (show Value.pt17Of (ix2 g o) < cfg0.N from lt_of_eq_of_lt hp (tOf o).isLt), hl]
  refine e.trans ?_
  exact out17_at _ _ _ _ _ _ _ _ _ _ (rOf o) g

theorem res_18 (o : Fin 5632) (k : Fin 384) :
    (Value.G18 m c : Vec Ideal S5632x384 .i8) (ix2 o k) = ((argsOf m c).row o).vCode (argsOf m c).x (argsOf m c).P k := by
  have hp : 1 * (o.val / 256 - 0) + 1 * (k.val / 384 - 0) = (tOf o).val := by show _ = o.val / 256; omega
  have hl : Value.loc18Of (ix2 o k) = ix2 (rOf o) k := funext fun x => Fin.ext (match x with
    | ⟨0, _⟩ => (by show o.val % 256 = o.val % 256; omega)
    | ⟨1, _⟩ => (by show k.val % 384 = k.val; omega))
  have e := congrFun (congrArg (fun q => q.2.2.2.2.2.2.1) (acc_eq m c (1 * (o.val / 256 - 0) + 1 * (k.val / 384 - 0)) (by rw [Nat.zero_add, hp]; exact (tOf o).isLt) (tOf o) hp)) (ix2 (rOf o) k)
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq]
  unfold Value.G18
  rw [dif_pos (show Value.pt18Of (ix2 o k) < cfg0.N from lt_of_eq_of_lt hp (tOf o).isLt), hl]
  refine e.trans ?_
  exact out18_at _ _ _ _ _ _ _ _ _ _ (rOf o) k

theorem res_19 (o : Fin 5632) (g : Fin 3) :
    (Value.G19 m c : Vec Ideal S3x5632 .f32) (ix2 g o) = ((argsOf m c).row o).vScale (argsOf m c).x (argsOf m c).P g := by
  have hp : 22 * (g.val / 3 - 0) + 1 * (o.val / 256 - 0) = (tOf o).val := by show _ = o.val / 256; omega
  have hl : Value.loc19Of (ix2 g o) = ix2 g (rOf o) := funext fun x => Fin.ext (match x with
    | ⟨0, _⟩ => (by show g.val % 3 = g.val; omega)
    | ⟨1, _⟩ => (by show o.val % 256 = o.val % 256; omega))
  have e := congrFun (congrArg (fun q => q.2.2.2.2.2.2.2.1) (acc_eq m c (22 * (g.val / 3 - 0) + 1 * (o.val / 256 - 0)) (by rw [Nat.zero_add, hp]; exact (tOf o).isLt) (tOf o) hp)) (ix2 g (rOf o))
  have hR : (argsOf m c).row o = rowOf (iblk m c 1 (tOf o)) (iblk m c 5 (tOf o)) (iblk m c 6 (tOf o)) (iblk m c 7 (tOf o))
      (iblk m c 8 (tOf o)) (iblk m c 9 (tOf o)) (iblk m c 10 (tOf o)) (iblk m c 11 (tOf o)) (rOf o) := by
    rw [row_eq, rowIx_of]
  rw [hR, ← act_eq, ← proj_eq]
  unfold Value.G19
  rw [dif_pos (show Value.pt19Of (ix2 g o) < cfg0.N from lt_of_eq_of_lt hp (tOf o).isLt), hl]
  refine e.trans ?_
  exact out19_at _ _ _ _ _ _ _ _ _ _ (rOf o) g

end Cert.KernelIdeal.Blocks

end
-- ==== Proof.Equal.lean ====
/- The reference's results are the kernel's, where the mask is set. -/
module

public import proofs.«01_k».proof.Proof.Mask
public import proofs.«01_k».proof.Proof.Results

@[expose] public section

set_option maxRecDepth 16384

noncomputable section

namespace Cert.Equal

open Idealize.ShloMosaic Idealize.ShloMosaic.Pointwise
open Cert.ReferenceIdeal.Read Cert.ReferenceIdeal.Value Cert.ReferenceIdeal.Mask Cert.Spec

/-- The two memories hold the same arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- The mask at the kernel's arguments. -/
abbrev mask (m : (ℓ : Loc Cert.KernelIdeal.nD Cert.KernelIdeal.τ Cert.KernelIdeal.sig) → Buf (Elt Ideal) ℓ) (c : Dev Cert.KernelIdeal.nD) :=
  Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- An index of a matrix is its two coordinates. -/
theorem ix2_self {a b : ℕ} (i : (⟨2, ![a, b]⟩ : Shape).Idx) : i = ix2 (i 0) (i 1) :=
  funext fun x => match x with
    | ⟨0, _⟩ => rfl
    | ⟨1, _⟩ => rfl

/-- The reference's weights' codes, of the kernel's arguments. -/
theorem ref_12 (h : Agree m m') :
    res_main_v134 m' c = val_main_v134 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨h0, h1, h2, h3, h4, h5, h6, h7, h8, h9, h10, h11⟩ := h c
  rw [val_main_v134_eq, h0, h1, h2, h3, h4, h5, h6, h7, h8, h9, h10, h11]

theorem eq_12 (h : Agree m m') (i : (⟨2, ![5632, 2048]⟩ : Shape).Idx) (hi : (mask m c).1 i = 1#1) :
    (res_main_v134 m' c : Vec Ideal ⟨2, ![5632, 2048]⟩ .i8) i = (Cert.KernelIdeal.Value.G12 m c : Vec Ideal ⟨2, ![5632, 2048]⟩ .i8) i := by
  rw [ref_12 m m' c h]
  obtain ⟨o, d, rfl⟩ : ∃ (o : Fin 5632) (d : Fin 2048), i = ix2 o d := ⟨i 0, i 1, ix2_self i⟩
  exact (wCode_at _ _ _ _ _ _ _ _ _ _ _ _ o d).trans (Cert.KernelIdeal.Blocks.res_12 m c o d (mask_wCode _ _ _ _ _ _ _ _ _ _ _ _ o d hi).1 (mask_wCode _ _ _ _ _ _ _ _ _ _ _ _ o d hi).2).symm

/-- The reference's weights' scales, of the kernel's arguments. -/
theorem ref_13 (h : Agree m m') :
    res_main_v135 m' c = val_main_v135 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨h0, h1, h2, h3, h4, h5, h6, h7, h8, h9, h10, h11⟩ := h c
  rw [val_main_v135_eq, h0, h1, h2, h3, h4, h5, h6, h7, h8, h9, h10]

theorem eq_13 (h : Agree m m') (i : (⟨2, ![1, 5632]⟩ : Shape).Idx) (hi : (mask m c).2.1 i = 1#1) :
    (res_main_v135 m' c : Vec Ideal ⟨2, ![1, 5632]⟩ .f32) i = (Cert.KernelIdeal.Value.G13 m c : Vec Ideal ⟨2, ![1, 5632]⟩ .f32) i := by
  rw [ref_13 m m' c h]
  obtain ⟨o, rfl⟩ : ∃ o : Fin 5632, i = ix2 0 o := ⟨i 1, (ix2_self i).trans (congrArg (ix2 · (i 1)) (Subsingleton.elim (α := Fin 1) _ _))⟩
  exact (wScales_at _ _ _ _ _ _ _ _ _ _ _ _ o).trans (Cert.KernelIdeal.Blocks.res_13 m c o (mask_wScale _ _ _ _ _ _ _ _ _ _ _ _ o hi)).symm

/-- The reference's update, of the kernel's arguments. -/
theorem ref_14 (h : Agree m m') :
    res_main_v105 m' c = val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨h0, h1, h2, h3, h4, h5, h6, h7, h8, h9, h10, h11⟩ := h c
  rw [val_main_v105_eq, h0, h1, h2, h3, h4, h5, h6, h7, h8]

theorem eq_14 (h : Agree m m') (i : (⟨2, ![5632, 2048]⟩ : Shape).Idx) (hi : (mask m c).2.2.1 i = 1#1) :
    (res_main_v105 m' c : Vec Ideal ⟨2, ![5632, 2048]⟩ .f32) i = (Cert.KernelIdeal.Value.G14 m c : Vec Ideal ⟨2, ![5632, 2048]⟩ .f32) i := by
  rw [ref_14 m m' c h]
  obtain ⟨o, d, rfl⟩ : ∃ (o : Fin 5632) (d : Fin 2048), i = ix2 o d := ⟨i 0, i 1, ix2_self i⟩
  exact (delta_at _ _ _ _ _ _ _ _ _ _ _ _ o d).trans (Cert.KernelIdeal.Blocks.res_14 m c o d (mask_delta _ _ _ _ _ _ _ _ _ _ _ _ o d hi)).symm

/-- The reference's direction, of the kernel's arguments. -/
theorem ref_15 (h : Agree m m') :
    res_main_v54 m' c = val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨h0, h1, h2, h3, h4, h5, h6, h7, h8, h9, h10, h11⟩ := h c
  rw [val_main_v54_eq, h0, h1, h2, h3, h4, h5, h6, h7, h8]

theorem eq_15 (h : Agree m m') (i : (⟨2, ![5632, 384]⟩ : Shape).Idx) (hi : (mask m c).2.2.2.1 i = 1#1) :
    (res_main_v54 m' c : Vec Ideal ⟨2, ![5632, 384]⟩ .f32) i = (Cert.KernelIdeal.Value.G15 m c : Vec Ideal ⟨2, ![5632, 384]⟩ .f32) i := by
  rw [ref_15 m m' c h]
  obtain ⟨o, k, rfl⟩ : ∃ (o : Fin 5632) (k : Fin 384), i = ix2 o k := ⟨i 0, i 1, ix2_self i⟩
  exact (n_at _ _ _ _ _ _ _ _ _ _ _ _ o k).trans (Cert.KernelIdeal.Blocks.res_15 m c o k (mask_n _ _ _ _ _ _ _ _ _ _ _ _ o k hi)).symm

/-- The reference's first moment's codes, of the kernel's arguments. -/
theorem ref_16 (h : Agree m m') :
    res_main_v84 m' c = val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨h0, h1, h2, h3, h4, h5, h6, h7, h8, h9, h10, h11⟩ := h c
  rw [val_main_v84_eq, h0, h1, h2, h3, h4, h5, h6]

theorem eq_16 (h : Agree m m') (i : (⟨2, ![5632, 384]⟩ : Shape).Idx) :
    (res_main_v84 m' c : Vec Ideal ⟨2, ![5632, 384]⟩ .i8) i = (Cert.KernelIdeal.Value.G16 m c : Vec Ideal ⟨2, ![5632, 384]⟩ .i8) i := by
  rw [ref_16 m m' c h]
  obtain ⟨o, k, rfl⟩ : ∃ (o : Fin 5632) (k : Fin 384), i = ix2 o k := ⟨i 0, i 1, ix2_self i⟩
  exact (mCode_at _ _ _ _ _ _ _ _ _ _ _ _ o k).trans (Cert.KernelIdeal.Blocks.res_16 m c o k).symm

/-- The reference's first moment's scales, of the kernel's arguments. -/
theorem ref_17 (h : Agree m m') :
    res_main_v136 m' c = val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨h0, h1, h2, h3, h4, h5, h6, h7, h8, h9, h10, h11⟩ := h c
  rw [val_main_v136_eq, h0, h1, h2, h3, h4, h5, h6]

theorem eq_17 (h : Agree m m') (i : (⟨2, ![3, 5632]⟩ : Shape).Idx) :
    (res_main_v136 m' c : Vec Ideal ⟨2, ![3, 5632]⟩ .f32) i = (Cert.KernelIdeal.Value.G17 m c : Vec Ideal ⟨2, ![3, 5632]⟩ .f32) i := by
  rw [ref_17 m m' c h]
  obtain ⟨g, o, rfl⟩ : ∃ (g : Fin 3) (o : Fin 5632), i = ix2 g o := ⟨i 0, i 1, ix2_self i⟩
  exact (mScales_at _ _ _ _ _ _ _ _ _ _ _ _ o g).trans (Cert.KernelIdeal.Blocks.res_17 m c o g).symm

/-- The reference's second moment's codes, of the kernel's arguments. -/
theorem ref_18 (h : Agree m m') :
    res_main_v96 m' c = val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨h0, h1, h2, h3, h4, h5, h6, h7, h8, h9, h10, h11⟩ := h c
  rw [val_main_v96_eq, h0, h1, h2, h3, h4, h7, h8]

theorem eq_18 (h : Agree m m') (i : (⟨2, ![5632, 384]⟩ : Shape).Idx) :
    (res_main_v96 m' c : Vec Ideal ⟨2, ![5632, 384]⟩ .i8) i = (Cert.KernelIdeal.Value.G18 m c : Vec Ideal ⟨2, ![5632, 384]⟩ .i8) i := by
  rw [ref_18 m m' c h]
  obtain ⟨o, k, rfl⟩ : ∃ (o : Fin 5632) (k : Fin 384), i = ix2 o k := ⟨i 0, i 1, ix2_self i⟩
  exact (vCode_at _ _ _ _ _ _ _ _ _ _ _ _ o k).trans (Cert.KernelIdeal.Blocks.res_18 m c o k).symm

/-- The reference's second moment's scales, of the kernel's arguments. -/
theorem ref_19 (h : Agree m m') :
    res_main_v137 m' c = val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨h0, h1, h2, h3, h4, h5, h6, h7, h8, h9, h10, h11⟩ := h c
  rw [val_main_v137_eq, h0, h1, h2, h3, h4, h7, h8]

theorem eq_19 (h : Agree m m') (i : (⟨2, ![3, 5632]⟩ : Shape).Idx) :
    (res_main_v137 m' c : Vec Ideal ⟨2, ![3, 5632]⟩ .f32) i = (Cert.KernelIdeal.Value.G19 m c : Vec Ideal ⟨2, ![3, 5632]⟩ .f32) i := by
  rw [ref_19 m m' c h]
  obtain ⟨g, o, rfl⟩ : ∃ (g : Fin 3) (o : Fin 5632), i = ix2 g o := ⟨i 0, i 1, ix2_self i⟩
  exact (vScales_at _ _ _ _ _ _ _ _ _ _ _ _ o g).trans (Cert.KernelIdeal.Blocks.res_19 m c o g).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_covered
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs, leaves its arguments, and declares no semaphore. -/
theorem frame_reference : Cert.quiescent_ReferenceIdeal (hReferenceIdeal := Cert.ReferenceIdeal.Gen.facts) :=
  fun m ρ _ => (θ_run Cert.ReferenceIdeal.defs _ _).mono (fun r h => ⟨fun c => by
      obtain ⟨-, -, -, -, -, -, -, -, ha⟩ := h c
      exact ha, Idealize.ShloMosaic.sem_eq_zero_of_no_sems (by decide) r.2⟩)
    (Cert.ReferenceIdeal.Value.run (F := Ideal) m ρ)

/-- The two named constants are in the table at the reals the rewrite states. -/
theorem preserves : Cert.preserves_Kernel_KernelIdeal :=
  ⟨IdealRules.named_const.statement Cert.KernelIdeal.κ "inv_bc2" .f32 0x42C8E6D3#32 ((268435456 / 2672307 : ℝ) : EReal) rfl,
    IdealRules.named_const.statement Cert.KernelIdeal.κ "inv_bc1" .f32 0x3FC48605#32 ((8388608 / 5463681 : ℝ) : EReal) rfl⟩

/-- Where the mask is set, kernel and reference end with the same results. -/
theorem algebraic : Cert.algebraic_KernelIdeal_ReferenceIdeal_on_covered (hKernelIdeal := Cert.KernelIdeal.Gen.facts)
    (hReferenceIdeal := Cert.ReferenceIdeal.Gen.facts) (hOn_covered := Cert.On_covered.Gen.facts) := by
  intro m ρ m' ρ' _ hagree
  refine ⟨fun c => Cert.KernelIdeal.Value.G12 m c, fun c => Cert.KernelIdeal.Value.G13 m c,
    fun c => Cert.KernelIdeal.Value.G14 m c, fun c => Cert.KernelIdeal.Value.G15 m c,
    fun c => Cert.KernelIdeal.Value.G16 m c, fun c => Cert.KernelIdeal.Value.G17 m c,
    fun c => Cert.KernelIdeal.Value.G18 m c, fun c => Cert.KernelIdeal.Value.G19 m c, ?_, ?_⟩
  · refine (θ_run Cert.KernelIdeal.defs _ _).mono (fun r h c => ?_) (Cert.KernelIdeal.Value.run (F := Ideal) m ρ)
    obtain ⟨h0, h1, h2, h3, h4, h5, h6, h7, ha⟩ := h c
    exact ⟨fun i _ => congrFun h0 i, fun i _ => congrFun h1 i, fun i _ => congrFun h2 i, fun i _ => congrFun h3 i,
      fun i _ => congrFun h4 i, fun i _ => congrFun h5 i, fun i _ => congrFun h6 i, fun i _ => congrFun h7 i, ha⟩
  · refine (θ_run Cert.ReferenceIdeal.defs _ _).mono (fun r h c => ?_) (Cert.ReferenceIdeal.Value.run (F := Ideal) m' ρ')
    obtain ⟨h0, h1, h2, h3, h4, h5, h6, h7, ha⟩ := h c
    exact ⟨fun i hi => (congrFun h0 i).trans (Cert.Equal.eq_12 m m' c hagree i hi),
      fun i hi => (congrFun h1 i).trans (Cert.Equal.eq_13 m m' c hagree i hi),
      fun i hi => (congrFun h2 i).trans (Cert.Equal.eq_14 m m' c hagree i hi),
      fun i hi => (congrFun h3 i).trans (Cert.Equal.eq_15 m m' c hagree i hi),
      fun i _ => (congrFun h4 i).trans (Cert.Equal.eq_16 m m' c hagree i),
      fun i _ => (congrFun h5 i).trans (Cert.Equal.eq_17 m m' c hagree i),
      fun i _ => (congrFun h6 i).trans (Cert.Equal.eq_18 m m' c hagree i),
      fun i _ => (congrFun h7 i).trans (Cert.Equal.eq_19 m m' c hagree i), ha⟩

theorem claim : Cert.Claim :=
  ⟨Cert.Kernel.Gen.facts, Cert.KernelIdeal.Gen.facts, Cert.ReferenceIdeal.Gen.facts, Cert.On_covered.Gen.facts,
    fun m ρ _ => Cert.Kernel.Gen.frame m ρ, fun m ρ _ => Cert.KernelIdeal.Gen.frame m ρ, frame_reference, preserves, algebraic⟩

end Cert.Proof

end
